-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.blockN ⟨4, ![2, 256, 256, 128]⟩ ⟨4, ![2, 512, 512, 128]⟩ (Layout.meshBlock [2, 2] ![[], [0], [1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.blockN ⟨4, ![2, 256, 256, 128]⟩ ⟨4, ![2, 512, 512, 128]⟩ (Layout.meshBlock [2, 2] ![[], [0], [1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v91) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x256x128 : Shape := ⟨4, ![2, 256, 256, 128]⟩
abbrev S3x3x128 : Shape := ⟨3, ![3, 3, 128]⟩
abbrev S128x128 : Shape := ⟨2, ![128, 128]⟩
abbrev S_ : Shape := ⟨0, ![]⟩

class Facts : Prop where
  bcast_S_S2x256x256x128 : S_.BroadcastsInDim S2x256x256x128 (![] : Fin 0 → Fin S2x256x256x128.rank)

variable [Facts]

def fn {F : FTy → Type} [FloatOps F] (main_arg0 : FVec F S2x256x256x128 .f32) (main_arg1 : FVec F S3x3x128 .f32) (main_arg2 : FVec F S128x128 .f32) : IVec S2x256x256x128 1 :=
  let main_v0 : FVec F S2x256x256x128 .f32 := Host.absf main_arg0
  let main_cst : FVec F S_ .f32 := constant S_ .f32 0x7F800000#32
  let main_v1 : FVec F S2x256x256x128 .f32 := broadcastInDim S2x256x256x128 ![] bcast_S_S2x256x256x128 main_cst
  let main_v2 : IVec S2x256x256x128 1 := cmpf .olt main_v0 main_v1
  main_v2
-- ==== Pre_finite_ReferenceIdeal.lean ====
abbrev S2x512x512x128 : Shape := ⟨4, ![2, 512, 512, 128]⟩
abbrev S3x3x128 : Shape := ⟨3, ![3, 3, 128]⟩
abbrev S128x128 : Shape := ⟨2, ![128, 128]⟩
abbrev S_ : Shape := ⟨0, ![]⟩

class Facts : Prop where
  bcast_S_S2x512x512x128 : S_.BroadcastsInDim S2x512x512x128 (![] : Fin 0 → Fin S2x512x512x128.rank)

variable [Facts]

def fn {F : FTy → Type} [FloatOps F] (main_arg0 : FVec F S2x512x512x128 .f32) (main_arg1 : FVec F S3x3x128 .f32) (main_arg2 : FVec F S128x128 .f32) : IVec S2x512x512x128 1 :=
  let main_v0 : FVec F S2x512x512x128 .f32 := Host.absf main_arg0
  let main_cst : FVec F S_ .f32 := constant S_ .f32 0x7F800000#32
  let main_v1 : FVec F S2x512x512x128 .f32 := broadcastInDim S2x512x512x128 ![] bcast_S_S2x512x512x128 main_cst
  let main_v2 : IVec S2x512x512x128 1 := cmpf .olt main_v0 main_v1
  main_v2
-- ==== Kernel.lean ====
abbrev S2x256x256x128 : Shape := ⟨4, ![2, 256, 256, 128]⟩
abbrev S3x3x128 : Shape := ⟨3, ![3, 3, 128]⟩
abbrev S128x128 : Shape := ⟨2, ![128, 128]⟩
abbrev S2x128 : Shape := ⟨2, ![2, 128]⟩
abbrev S2x32x256x128 : Shape := ⟨4, ![2, 32, 256, 128]⟩
abbrev S2x2x1x128 : Shape := ⟨4, ![2, 2, 1, 128]⟩
abbrev S2x256x128 : Shape := ⟨3, ![2, 256, 128]⟩
abbrev S2x1x128 : Shape := ⟨3, ![2, 1, 128]⟩
abbrev S2x1x256x128 : Shape := ⟨4, ![2, 1, 256, 128]⟩
abbrev S2x256x1x128 : Shape := ⟨4, ![2, 256, 1, 128]⟩
abbrev S2x1x1x128 : Shape := ⟨4, ![2, 1, 1, 128]⟩
abbrev S2x2x128 : Shape := ⟨3, ![2, 2, 128]⟩
abbrev S3x2x2x128 : Shape := ⟨4, ![3, 2, 2, 128]⟩
abbrev S3 : Shape := ⟨1, ![3]⟩
abbrev S6 : Shape := ⟨1, ![6]⟩
abbrev S1 : Shape := ⟨1, ![1]⟩
abbrev S_ : Shape := ⟨0, ![]⟩
abbrev S1x2x128 : Shape := ⟨3, ![1, 2, 128]⟩
abbrev S1x2x2x128 : Shape := ⟨4, ![1, 2, 2, 128]⟩
abbrev S1x1x2x128 : Shape := ⟨4, ![1, 1, 2, 128]⟩
abbrev S1x2x1x128 : Shape := ⟨4, ![1, 2, 1, 128]⟩
abbrev S1x64x256x128 : Shape := ⟨4, ![1, 64, 256, 128]⟩
abbrev S1x256x128 : Shape := ⟨3, ![1, 256, 128]⟩
abbrev S2 : Shape := ⟨1, ![2]⟩
abbrev S1x1x256x128 : Shape := ⟨4, ![1, 1, 256, 128]⟩
abbrev S1x1x1x128 : Shape := ⟨4, ![1, 1, 1, 128]⟩
abbrev S128 : Shape := ⟨1, ![128]⟩
abbrev S64x256x128 : Shape := ⟨3, ![64, 256, 128]⟩
abbrev S1x1x128 : Shape := ⟨3, ![1, 1, 128]⟩
abbrev S256x128 : Shape := ⟨2, ![256, 128]⟩
abbrev S1x128 : Shape := ⟨2, ![1, 128]⟩
abbrev S1x64x128 : Shape := ⟨3, ![1, 64, 128]⟩
abbrev S64x128 : Shape := ⟨2, ![64, 128]⟩
abbrev S64x1x128 : Shape := ⟨3, ![64, 1, 128]⟩
abbrev S64x258x128 : Shape := ⟨3, ![64, 258, 128]⟩
abbrev S258x128 : Shape := ⟨2, ![258, 128]⟩
abbrev S1x258x128 : Shape := ⟨3, ![1, 258, 128]⟩
abbrev S66x258x128 : Shape := ⟨3, ![66, 258, 128]⟩
abbrev S16384x128 : Shape := ⟨2, ![16384, 128]⟩

abbrev nBuf : Space → Nat
  | .hbm => 10
  | .vmem => 30
  | .smem => 0
  | _ => 0

abbrev bufTy : (tb : Table) → Fin (tcTables nBuf tb) → BufTy
  | .hbm, ⟨0, _⟩ => ⟨S2x256x256x128, .f32⟩
  | .hbm, ⟨1, _⟩ => ⟨S3x3x128, .f32⟩
  | .hbm, ⟨2, _⟩ => ⟨S128x128, .f32⟩
  | .hbm, ⟨3, _⟩ => ⟨S2x128, .f32⟩
  | .hbm, ⟨4, _⟩ => ⟨S2x128, .f32⟩
  | .hbm, ⟨5, _⟩ => ⟨S2x2x1x128, .f32⟩
  | .hbm, ⟨6, _⟩ => ⟨S2x256x128, .bf16⟩
  | .hbm, ⟨7, _⟩ => ⟨S2x256x128, .bf16⟩
  | .hbm, ⟨8, _⟩ => ⟨S2x1x128, .bf16⟩
  | .hbm, ⟨9, _⟩ => ⟨S2x256x256x128, .bf16⟩
  | .local _ .vmem, ⟨0, _⟩ => ⟨S2x32x256x128, .f32⟩
  | .local _ .vmem, ⟨1, _⟩ => ⟨S2x32x256x128, .f32⟩
  | .local _ .vmem, ⟨2, _⟩ => ⟨S2x128, .f32⟩
  | .local _ .vmem, ⟨3, _⟩ => ⟨S2x128, .f32⟩
  | .local _ .vmem, ⟨4, _⟩ => ⟨S2x128, .f32⟩
  | .local _ .vmem, ⟨5, _⟩ => ⟨S2x128, .f32⟩
  | .local _ .vmem, ⟨6, _⟩ => ⟨S2x2x1x128, .f32⟩
  | .local _ .vmem, ⟨7, _⟩ => ⟨S2x256x128, .bf16⟩
  | .local _ .vmem, ⟨8, _⟩ => ⟨S2x256x128, .bf16⟩
  | .local _ .vmem, ⟨9, _⟩ => ⟨S2x1x128, .bf16⟩
  | .local _ .vmem, ⟨10, _⟩ => ⟨S2x1x256x128, .f32⟩
  | .local _ .vmem, ⟨11, _⟩ => ⟨S2x256x1x128, .f32⟩
  | .local _ .vmem, ⟨12, _⟩ => ⟨S2x1x1x128, .f32⟩
  | .local _ .vmem, ⟨13, _⟩ => ⟨S2x256x128, .bf16⟩
  | .local _ .vmem, ⟨14, _⟩ => ⟨S2x256x128, .bf16⟩
  | .local _ .vmem, ⟨15, _⟩ => ⟨S2x1x128, .bf16⟩
  | .local _ .vmem, ⟨16, _⟩ => ⟨S2x2x128, .f32⟩
  | .local _ .vmem, ⟨17, _⟩ => ⟨S3x2x2x128, .f32⟩
  | .local _ .vmem, ⟨18, _⟩ => ⟨S1x64x256x128, .f32⟩
  | .local _ .vmem, ⟨19, _⟩ => ⟨S1x64x256x128, .f32⟩
  | .local _ .vmem, ⟨20, _⟩ => ⟨S2x2x1x128, .f32⟩
  | .local _ .vmem, ⟨21, _⟩ => ⟨S2x256x128, .bf16⟩
  | .local _ .vmem, ⟨22, _⟩ => ⟨S2x256x128, .bf16⟩
  | .local _ .vmem, ⟨23, _⟩ => ⟨S2x1x128, .bf16⟩
  | .local _ .vmem, ⟨24, _⟩ => ⟨S3x3x128, .f32⟩
  | .local _ .vmem, ⟨25, _⟩ => ⟨S128x128, .f32⟩
  | .local _ .vmem, ⟨26, _⟩ => ⟨S1x64x256x128, .bf16⟩
  | .local _ .vmem, ⟨27, _⟩ => ⟨S1x64x256x128, .bf16⟩
  | .local _ .vmem, ⟨28, _⟩ => ⟨S1x256x128, .f32⟩
  | .local _ .vmem, ⟨29, _⟩ => ⟨S1x256x128, .f32⟩
  | _, _ => ⟨S2x256x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 2 → Bool
  | ⟨0, _⟩ => false
  | ⟨1, _⟩ => true
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 2 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_scratch0 : Ref sig .tc := ⟨.vmem, 10, rfl⟩
abbrev cc1_scratch1 : Ref sig .tc := ⟨.vmem, 11, rfl⟩
abbrev cc1_scratch2 : Ref sig .tc := ⟨.vmem, 12, rfl⟩
abbrev cc1_scratch3 : Ref sig .tc := ⟨.vmem, 13, rfl⟩
abbrev cc1_scratch4 : Ref sig .tc := ⟨.vmem, 14, rfl⟩
abbrev cc1_scratch5 : Ref sig .tc := ⟨.vmem, 15, rfl⟩
abbrev cc1_scratch6 : Ref sig .tc := ⟨.vmem, 16, rfl⟩
abbrev cc1_scratch7 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg7_1 : Ref sig .tc := ⟨.vmem, 27, rfl⟩
abbrev cc2_scratch0 : Ref sig .tc := ⟨.vmem, 28, rfl⟩
abbrev cc2_scratch1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc2_sem0_0 : DmaSem sig := 25
abbrev cc2_sem0_1 : DmaSem sig := 26
abbrev cc2_sem1_0 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem7_1 : DmaSem sig := 34
abbrev barrier0 : Sem sig := 0

abbrev nD : Nat := 4
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg0 : BitVec 32 := BitVec.ofNat 32 (i 0).val
  let c0_i32_5 : BitVec 32 := 0#32
  let v8 : BitVec 1 := Scalar.cmpi .ne arg0 c0_i32_5
  let v9 : BitVec 32 := Scalar.extui v8
  let c0_i32_6 : BitVec 32 := 0#32
  let v10 : BitVec 1 := Scalar.cmpi .ne v9 c0_i32_6
  v10

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x32x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := .none

def k1_off1 (d0 : Dev nD) : Fin 4 → Nat :=
  let c0_i32_5 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c255_i32 : BitVec 32 := 255#32
  let v7 : BitVec 32 := Scalar.muli v6 c255_i32
  let c0_i32_6 : BitVec 32 := 0#32
  let c0_i32_7 : BitVec 32 := 0#32
  ![0, v7.toNat, 0, 0]
def k1_off2 (d0 : Dev nD) : Fin 4 → Nat :=
  let c0_i32_9 : BitVec 32 := 0#32
  let c0_i32_10 : BitVec 32 := 0#32
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.subi c1_i32_3 v5
  let c255_i32_4 : BitVec 32 := 255#32
  let v9 : BitVec 32 := Scalar.muli v8 c255_i32_4
  let c0_i32_11 : BitVec 32 := 0#32
  ![0, 0, v9.toNat, 0]
def k1_off3 (d0 : Dev nD) : Fin 4 → Nat :=
  let c0_i32_13 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c255_i32 : BitVec 32 := 255#32
  let v7 : BitVec 32 := Scalar.muli v6 c255_i32
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.subi c1_i32_3 v5
  let c255_i32_4 : BitVec 32 := 255#32
  let v9 : BitVec 32 := Scalar.muli v8 c255_i32_4
  let c0_i32_14 : BitVec 32 := 0#32
  ![0, v7.toNat, v9.toNat, 0]
def k1_dev1 (d0 : Dev nD) : Nat :=
  let c0_i32_61 : BitVec 32 := 0#32
  let c1_i32_55 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v56 : BitVec 32 := Scalar.subi c1_i32_55 v2
  let c2_i32_60 : BitVec 32 := 2#32
  let v61 : BitVec 32 := Scalar.muli v56 c2_i32_60
  let v62 : BitVec 32 := Scalar.addi c0_i32_61 v61
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_62 : BitVec 32 := 1#32
  let v63 : BitVec 32 := Scalar.muli v5 c1_i32_62
  let v64 : BitVec 32 := Scalar.addi v62 v63
  v64.toNat
def k1_dev2 (d0 : Dev nD) : Nat :=
  let c0_i32_65 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_64 : BitVec 32 := 2#32
  let v65 : BitVec 32 := Scalar.muli v2 c2_i32_64
  let v66 : BitVec 32 := Scalar.addi c0_i32_65 v65
  let c1_i32_56 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v57 : BitVec 32 := Scalar.subi c1_i32_56 v5
  let c1_i32_66 : BitVec 32 := 1#32
  let v67 : BitVec 32 := Scalar.muli v57 c1_i32_66
  let v68 : BitVec 32 := Scalar.addi v66 v67
  v68.toNat
def k1_dev3 (d0 : Dev nD) : Nat :=
  let c0_i32_69 : BitVec 32 := 0#32
  let c1_i32_57 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v58 : BitVec 32 := Scalar.subi c1_i32_57 v2
  let c2_i32_68 : BitVec 32 := 2#32
  let v69 : BitVec 32 := Scalar.muli v58 c2_i32_68
  let v70 : BitVec 32 := Scalar.addi c0_i32_69 v69
  let c1_i32_58 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v59 : BitVec 32 := Scalar.subi c1_i32_58 v5
  let c1_i32_70 : BitVec 32 := 1#32
  let v71 : BitVec 32 := Scalar.muli v59 c1_i32_70
  let v72 : BitVec 32 := Scalar.addi v70 v71
  v72.toNat
def k1_dev4 (d0 : Dev nD) : Nat :=
  let c0_i32_74 : BitVec 32 := 0#32
  let c1_i32_55 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v56 : BitVec 32 := Scalar.subi c1_i32_55 v2
  let c2_i32_73 : BitVec 32 := 2#32
  let v73 : BitVec 32 := Scalar.muli v56 c2_i32_73
  let v74 : BitVec 32 := Scalar.addi c0_i32_74 v73
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_75 : BitVec 32 := 1#32
  let v75 : BitVec 32 := Scalar.muli v5 c1_i32_75
  let v76 : BitVec 32 := Scalar.addi v74 v75
  v76.toNat
def k1_dev5 (d0 : Dev nD) : Nat :=
  let c0_i32_79 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_78 : BitVec 32 := 2#32
  let v81 : BitVec 32 := Scalar.muli v2 c2_i32_78
  let v82 : BitVec 32 := Scalar.addi c0_i32_79 v81
  let c1_i32_56 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v57 : BitVec 32 := Scalar.subi c1_i32_56 v5
  let c1_i32_80 : BitVec 32 := 1#32
  let v83 : BitVec 32 := Scalar.muli v57 c1_i32_80
  let v84 : BitVec 32 := Scalar.addi v82 v83
  v84.toNat
def k1_dev6 (d0 : Dev nD) : Nat :=
  let c0_i32_84 : BitVec 32 := 0#32
  let c1_i32_57 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v58 : BitVec 32 := Scalar.subi c1_i32_57 v2
  let c2_i32_83 : BitVec 32 := 2#32
  let v89 : BitVec 32 := Scalar.muli v58 c2_i32_83
  let v90 : BitVec 32 := Scalar.addi c0_i32_84 v89
  let c1_i32_58 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v59 : BitVec 32 := Scalar.subi c1_i32_58 v5
  let c1_i32_85 : BitVec 32 := 1#32
  let v91 : BitVec 32 := Scalar.muli v59 c1_i32_85
  let v92 : BitVec 32 := Scalar.addi v90 v91
  v92.toNat
def k1_dev7 (d0 : Dev nD) : Nat :=
  let c0_i32_90 : BitVec 32 := 0#32
  let c1_i32_55 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v56 : BitVec 32 := Scalar.subi c1_i32_55 v2
  let c2_i32_89 : BitVec 32 := 2#32
  let v97 : BitVec 32 := Scalar.muli v56 c2_i32_89
  let v98 : BitVec 32 := Scalar.addi c0_i32_90 v97
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_91 : BitVec 32 := 1#32
  let v99 : BitVec 32 := Scalar.muli v5 c1_i32_91
  let v100 : BitVec 32 := Scalar.addi v98 v99
  v100.toNat
def k1_dev8 (d0 : Dev nD) : Nat :=
  let c0_i32_98 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_97 : BitVec 32 := 2#32
  let v107 : BitVec 32 := Scalar.muli v2 c2_i32_97
  let v108 : BitVec 32 := Scalar.addi c0_i32_98 v107
  let c1_i32_56 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v57 : BitVec 32 := Scalar.subi c1_i32_56 v5
  let c1_i32_99 : BitVec 32 := 1#32
  let v109 : BitVec 32 := Scalar.muli v57 c1_i32_99
  let v110 : BitVec 32 := Scalar.addi v108 v109
  v110.toNat
def k1_dev9 (d0 : Dev nD) : Nat :=
  let c0_i32_106 : BitVec 32 := 0#32
  let c1_i32_57 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v58 : BitVec 32 := Scalar.subi c1_i32_57 v2
  let c2_i32_105 : BitVec 32 := 2#32
  let v117 : BitVec 32 := Scalar.muli v58 c2_i32_105
  let v118 : BitVec 32 := Scalar.addi c0_i32_106 v117
  let c1_i32_58 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v59 : BitVec 32 := Scalar.subi c1_i32_58 v5
  let c1_i32_107 : BitVec 32 := 1#32
  let v119 : BitVec 32 := Scalar.muli v59 c1_i32_107
  let v120 : BitVec 32 := Scalar.addi v118 v119
  v120.toNat
def k1_dev10 (d0 : Dev nD) : Nat :=
  let c0_i32_222_r0 : BitVec 32 := 0#32
  let c1_i32_55 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v56 : BitVec 32 := Scalar.subi c1_i32_55 v2
  let c2_i32_221_r0 : BitVec 32 := 2#32
  let v227_r0 : BitVec 32 := Scalar.muli v56 c2_i32_221_r0
  let v228_r0 : BitVec 32 := Scalar.addi c0_i32_222_r0 v227_r0
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_223_r0 : BitVec 32 := 1#32
  let v229_r0 : BitVec 32 := Scalar.muli v5 c1_i32_223_r0
  let v230_r0 : BitVec 32 := Scalar.addi v228_r0 v229_r0
  v230_r0.toNat
def k1_dev11 (d0 : Dev nD) : Nat :=
  let c0_i32_226_r0 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_225_r0 : BitVec 32 := 2#32
  let v231_r0 : BitVec 32 := Scalar.muli v2 c2_i32_225_r0
  let v232_r0 : BitVec 32 := Scalar.addi c0_i32_226_r0 v231_r0
  let c1_i32_56 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v57 : BitVec 32 := Scalar.subi c1_i32_56 v5
  let c1_i32_227_r0 : BitVec 32 := 1#32
  let v233_r0 : BitVec 32 := Scalar.muli v57 c1_i32_227_r0
  let v234_r0 : BitVec 32 := Scalar.addi v232_r0 v233_r0
  v234_r0.toNat
def k1_dev12 (d0 : Dev nD) : Nat :=
  let c0_i32_230_r0 : BitVec 32 := 0#32
  let c1_i32_57 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v58 : BitVec 32 := Scalar.subi c1_i32_57 v2
  let c2_i32_229_r0 : BitVec 32 := 2#32
  let v235_r0 : BitVec 32 := Scalar.muli v58 c2_i32_229_r0
  let v236_r0 : BitVec 32 := Scalar.addi c0_i32_230_r0 v235_r0
  let c1_i32_58 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v59 : BitVec 32 := Scalar.subi c1_i32_58 v5
  let c1_i32_231_r0 : BitVec 32 := 1#32
  let v237_r0 : BitVec 32 := Scalar.muli v59 c1_i32_231_r0
  let v238_r0 : BitVec 32 := Scalar.addi v236_r0 v237_r0
  v238_r0.toNat
abbrev stage1_0 : Fin 1 → Memref sig .tc .vmem S2x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S2x2x1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S2x256x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S2x256x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S2x1x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev grid2 : Pipeline.Grid := ⟨2, ![2, 4], ![false, false]⟩

def k2_off1 (i : grid2.Coords) : Fin 4 → Nat :=
  let arg0 : BitVec 32 := BitVec.ofNat 32 (i 0).val
  let arg1 : BitVec 32 := BitVec.ofNat 32 (i 1).val
  let c64_i32 : BitVec 32 := 64#32
  let v6 : BitVec 32 := Scalar.muli arg1 c64_i32
  let c1_i32_2 : BitVec 32 := 1#32
  let v7 : BitVec 32 := Scalar.subi v6 c1_i32_2
  let c0_i32 : BitVec 32 := 0#32
  let v8 : BitVec 32 := Scalar.maxsi v7 c0_i32
  let c0_i32_5 : BitVec 32 := 0#32
  let c0_i32_6 : BitVec 32 := 0#32
  ![arg0.toNat, v8.toNat, 0, 0]
def k2_off2 (i : grid2.Coords) : Fin 4 → Nat :=
  let arg0 : BitVec 32 := BitVec.ofNat 32 (i 0).val
  let arg1 : BitVec 32 := BitVec.ofNat 32 (i 1).val
  let c64_i32 : BitVec 32 := 64#32
  let v6 : BitVec 32 := Scalar.muli arg1 c64_i32
  let c64_i32_3 : BitVec 32 := 64#32
  let v9 : BitVec 32 := Scalar.addi v6 c64_i32_3
  let c255_i32 : BitVec 32 := 255#32
  let v10 : BitVec 32 := Scalar.minsi v9 c255_i32
  let c0_i32_8 : BitVec 32 := 0#32
  let c0_i32_9 : BitVec 32 := 0#32
  ![arg0.toNat, v10.toNat, 0, 0]
def k2_off3 (i : grid2.Coords) : Fin 4 → Nat :=
  let c0 : Index := 0#32
  let arg0 : BitVec 32 := BitVec.ofNat 32 (i 0).val
  let v19 : Index := Scalar.indexCast arg0
  let c0_10 : Index := 0#32
  let c0_11 : Index := 0#32
  ![0, v19.toNat, 0, 0]
def k2_off4 (i : grid2.Coords) : Fin 4 → Nat :=
  let c1 : Index := 1#32
  let arg0 : BitVec 32 := BitVec.ofNat 32 (i 0).val
  let v23 : Index := Scalar.indexCast arg0
  let c0_12 : Index := 0#32
  let c0_13 : Index := 0#32
  ![1, v23.toNat, 0, 0]
def k2_off5 (i : grid2.Coords) : Fin 3 → Nat :=
  let arg0 : BitVec 32 := BitVec.ofNat 32 (i 0).val
  let v36 : Index := Scalar.indexCast arg0
  let c0_18 : Index := 0#32
  let c0_19 : Index := 0#32
  ![v36.toNat, 0, 0]
def k2_off6 (i : grid2.Coords) : Fin 3 → Nat :=
  let arg0 : BitVec 32 := BitVec.ofNat 32 (i 0).val
  let v45 : Index := Scalar.indexCast arg0
  let arg1 : BitVec 32 := BitVec.ofNat 32 (i 1).val
  let c64_i32 : BitVec 32 := 64#32
  let v6 : BitVec 32 := Scalar.muli arg1 c64_i32
  let v46 : Index := Scalar.indexCast v6
  let c0_20 : Index := 0#32
  ![v45.toNat, v46.toNat, 0]
def k2_off7 (i : grid2.Coords) : Fin 3 → Nat :=
  let arg0 : BitVec 32 := BitVec.ofNat 32 (i 0).val
  let v98 : Index := Scalar.indexCast arg0
  let c0_37 : Index := 0#32
  let c0_38 : Index := 0#32
  ![v98.toNat, 0, 0]
def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x64x256x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S2x2x1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S2x256x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S2x256x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S2x1x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S3x3x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 2 → Memref sig .tc .vmem S1x64x256x128 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]
-- ==== ReferenceIdeal.lean ====
abbrev S2x512x512x128 : Shape := ⟨4, ![2, 512, 512, 128]⟩
abbrev S3x3x128 : Shape := ⟨3, ![3, 3, 128]⟩
abbrev S128x128 : Shape := ⟨2, ![128, 128]⟩
abbrev S_ : Shape := ⟨0, ![]⟩
abbrev S2x128 : Shape := ⟨2, ![2, 128]⟩
abbrev S2x1x1x128 : Shape := ⟨4, ![2, 1, 1, 128]⟩
abbrev S2x1x512x128 : Shape := ⟨4, ![2, 1, 512, 128]⟩
abbrev S2x514x512x128 : Shape := ⟨4, ![2, 514, 512, 128]⟩
abbrev S2x514x1x128 : Shape := ⟨4, ![2, 514, 1, 128]⟩
abbrev S2x514x514x128 : Shape := ⟨4, ![2, 514, 514, 128]⟩
abbrev S1x1x128 : Shape := ⟨3, ![1, 1, 128]⟩
abbrev S128 : Shape := ⟨1, ![128]⟩
abbrev S1x1x1x128 : Shape := ⟨4, ![1, 1, 1, 128]⟩
abbrev S524288x128 : Shape := ⟨2, ![524288, 128]⟩

abbrev nBuf : Space → Nat
  | .hbm => 123
  | .vmem => 0
  | .smem => 0
  | _ => 0

abbrev bufTy : (tb : Table) → Fin (tcTables nBuf tb) → BufTy
  | .hbm, ⟨0, _⟩ => ⟨S2x512x512x128, .f32⟩
  | .hbm, ⟨1, _⟩ => ⟨S3x3x128, .f32⟩
  | .hbm, ⟨2, _⟩ => ⟨S128x128, .f32⟩
  | .hbm, ⟨3, _⟩ => ⟨S_, .f32⟩
  | .hbm, ⟨4, _⟩ => ⟨S2x128, .f32⟩
  | .hbm, ⟨5, _⟩ => ⟨S2x1x1x128, .f32⟩
  | .hbm, ⟨6, _⟩ => ⟨S_, .f32⟩
  | .hbm, ⟨7, _⟩ => ⟨S2x1x1x128, .f32⟩
  | .hbm, ⟨8, _⟩ => ⟨S2x1x1x128, .f32⟩
  | .hbm, ⟨9, _⟩ => ⟨S_, .i32⟩
  | .hbm, ⟨10, _⟩ => ⟨S_, .f32⟩
  | .hbm, ⟨11, _⟩ => ⟨S2x128, .f32⟩
  | .hbm, ⟨12, _⟩ => ⟨S2x1x1x128, .f32⟩
  | .hbm, ⟨13, _⟩ => ⟨S_, .f32⟩
  | .hbm, ⟨14, _⟩ => ⟨S2x1x1x128, .f32⟩
  | .hbm, ⟨15, _⟩ => ⟨S2x1x1x128, .f32⟩
  | .hbm, ⟨16, _⟩ => ⟨S2x512x512x128, .f32⟩
  | .hbm, ⟨17, _⟩ => ⟨S2x512x512x128, .f32⟩
  | .hbm, ⟨18, _⟩ => ⟨S2x512x512x128, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2x128, .f32⟩
  | .hbm, ⟨24, _⟩ => ⟨S2x1x1x128, .f32⟩
  | .hbm, ⟨25, _⟩ => ⟨S2x1x1x128, .f32⟩
  | .hbm, ⟨26, _⟩ => ⟨S2x1x1x128, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S2x1x1x128, .f32⟩
  | .hbm, ⟨32, _⟩ => ⟨S2x1x1x128, .f32⟩
  | .hbm, ⟨33, _⟩ => ⟨S2x512x512x128, .f32⟩
  | .hbm, ⟨34, _⟩ => ⟨S2x512x512x128, .f32⟩
  | .hbm, ⟨35, _⟩ => ⟨S_, .f32⟩
  | .hbm, ⟨36, _⟩ => ⟨S2x1x1x128, .f32⟩
  | .hbm, ⟨37, _⟩ => ⟨S2x1x1x128, .f32⟩
  | .hbm, ⟨38, _⟩ => ⟨S2x1x1x128, .f32⟩
  | .hbm, ⟨39, _⟩ => ⟨S2x512x512x128, .f32⟩
  | .hbm, ⟨40, _⟩ => ⟨S2x512x512x128, .f32⟩
  | .hbm, ⟨41, _⟩ => ⟨S2x1x512x128, .f32⟩
  | .hbm, ⟨42, _⟩ => ⟨S2x1x512x128, .f32⟩
  | .hbm, ⟨43, _⟩ => ⟨S2x514x512x128, .f32⟩
  | .hbm, ⟨44, _⟩ => ⟨S2x514x1x128, .f32⟩
  | .hbm, ⟨45, _⟩ => ⟨S2x514x1x128, .f32⟩
  | .hbm, ⟨46, _⟩ => ⟨S2x514x514x128, .f32⟩
  | .hbm, ⟨47, _⟩ => ⟨S_, .f32⟩
  | .hbm, ⟨48, _⟩ => ⟨S2x512x512x128, .f32⟩
  | .hbm, ⟨49, _⟩ => ⟨S2x512x512x128, .f32⟩
  | .hbm, ⟨50, _⟩ => ⟨S1x1x128, .f32⟩
  | .hbm, ⟨51, _⟩ => ⟨S128, .f32⟩
  | .hbm, ⟨52, _⟩ => ⟨S1x1x1x128, .f32⟩
  | .hbm, ⟨53, _⟩ => ⟨S2x512x512x128, .f32⟩
  | .hbm, ⟨54, _⟩ => ⟨S2x512x512x128, .f32⟩
  | .hbm, ⟨55, _⟩ => ⟨S2x512x512x128, .f32⟩
  | .hbm, ⟨56, _⟩ => ⟨S2x512x512x128, .f32⟩
  | .hbm, ⟨57, _⟩ => ⟨S1x1x128, .f32⟩
  | .hbm, ⟨58, _⟩ => ⟨S128, .f32⟩
  | .hbm, ⟨59, _⟩ => ⟨S1x1x1x128, .f32⟩
  | .hbm, ⟨60, _⟩ => ⟨S2x512x512x128, .f32⟩
  | .hbm, ⟨61, _⟩ => ⟨S2x512x512x128, .f32⟩
  | .hbm, ⟨62, _⟩ => ⟨S2x512x512x128, .f32⟩
  | .hbm, ⟨63, _⟩ => ⟨S2x512x512x128, .f32⟩
  | .hbm, ⟨64, _⟩ => ⟨S1x1x128, .f32⟩
  | .hbm, ⟨65, _⟩ => ⟨S128, .f32⟩
  | .hbm, ⟨66, _⟩ => ⟨S1x1x1x128, .f32⟩
  | .hbm, ⟨67, _⟩ => ⟨S2x512x512x128, .f32⟩
  | .hbm, ⟨68, _⟩ => ⟨S2x512x512x128, .f32⟩
  | .hbm, ⟨69, _⟩ => ⟨S2x512x512x128, .f32⟩
  | .hbm, ⟨70, _⟩ => ⟨S2x512x512x128, .f32⟩
  | .hbm, ⟨71, _⟩ => ⟨S1x1x128, .f32⟩
  | .hbm, ⟨72, _⟩ => ⟨S128, .f32⟩
  | .hbm, ⟨73, _⟩ => ⟨S1x1x1x128, .f32⟩
  | .hbm, ⟨74, _⟩ => ⟨S2x512x512x128, .f32⟩
  | .hbm, ⟨75, _⟩ => ⟨S2x512x512x128, .f32⟩
  | .hbm, ⟨76, _⟩ => ⟨S2x512x512x128, .f32⟩
  | .hbm, ⟨77, _⟩ => ⟨S2x512x512x128, .f32⟩
  | .hbm, ⟨78, _⟩ => ⟨S1x1x128, .f32⟩
  | .hbm, ⟨79, _⟩ => ⟨S128, .f32⟩
  | .hbm, ⟨80, _⟩ => ⟨S1x1x1x128, .f32⟩
  | .hbm, ⟨81, _⟩ => ⟨S2x512x512x128, .f32⟩
  | .hbm, ⟨82, _⟩ => ⟨S2x512x512x128, .f32⟩
  | .hbm, ⟨83, _⟩ => ⟨S2x512x512x128, .f32⟩
  | .hbm, ⟨84, _⟩ => ⟨S2x512x512x128, .f32⟩
  | .hbm, ⟨85, _⟩ => ⟨S1x1x128, .f32⟩
  | .hbm, ⟨86, _⟩ => ⟨S128, .f32⟩
  | .hbm, ⟨87, _⟩ => ⟨S1x1x1x128, .f32⟩
  | .hbm, ⟨88, _⟩ => ⟨S2x512x512x128, .f32⟩
  | .hbm, ⟨89, _⟩ => ⟨S2x512x512x128, .f32⟩
  | .hbm, ⟨90, _⟩ => ⟨S2x512x512x128, .f32⟩
  | .hbm, ⟨91, _⟩ => ⟨S2x512x512x128, .f32⟩
  | .hbm, ⟨92, _⟩ => ⟨S1x1x128, .f32⟩
  | .hbm, ⟨93, _⟩ => ⟨S128, .f32⟩
  | .hbm, ⟨94, _⟩ => ⟨S1x1x1x128, .f32⟩
  | .hbm, ⟨95, _⟩ => ⟨S2x512x512x128, .f32⟩
  | .hbm, ⟨96, _⟩ => ⟨S2x512x512x128, .f32⟩
  | .hbm, ⟨97, _⟩ => ⟨S2x512x512x128, .f32⟩
  | .hbm, ⟨98, _⟩ => ⟨S2x512x512x128, .f32⟩
  | .hbm, ⟨99, _⟩ => ⟨S1x1x128, .f32⟩
  | .hbm, ⟨100, _⟩ => ⟨S128, .f32⟩
  | .hbm, ⟨101, _⟩ => ⟨S1x1x1x128, .f32⟩
  | .hbm, ⟨102, _⟩ => ⟨S2x512x512x128, .f32⟩
  | .hbm, ⟨103, _⟩ => ⟨S2x512x512x128, .f32⟩
  | .hbm, ⟨104, _⟩ => ⟨S2x512x512x128, .f32⟩
  | .hbm, ⟨105, _⟩ => ⟨S2x512x512x128, .f32⟩
  | .hbm, ⟨106, _⟩ => ⟨S1x1x128, .f32⟩
  | .hbm, ⟨107, _⟩ => ⟨S128, .f32⟩
  | .hbm, ⟨108, _⟩ => ⟨S1x1x1x128, .f32⟩
  | .hbm, ⟨109, _⟩ => ⟨S2x512x512x128, .f32⟩
  | .hbm, ⟨110, _⟩ => ⟨S2x512x512x128, .f32⟩
  | .hbm, ⟨111, _⟩ => ⟨S2x512x512x128, .f32⟩
  | .hbm, ⟨112, _⟩ => ⟨S2x512x512x128, .f32⟩
  | .hbm, ⟨113, _⟩ => ⟨S2x512x512x128, .f32⟩
  | .hbm, ⟨114, _⟩ => ⟨S_, .f32⟩
  | .hbm, ⟨115, _⟩ => ⟨S2x512x512x128, .f32⟩
  | .hbm, ⟨116, _⟩ => ⟨S2x512x512x128, .f32⟩
  | .hbm, ⟨117, _⟩ => ⟨S2x512x512x128, .f32⟩
  | .hbm, ⟨118, _⟩ => ⟨S524288x128, .f32⟩
  | .hbm, ⟨119, _⟩ => ⟨S524288x128, .f32⟩
  | .hbm, ⟨120, _⟩ => ⟨S2x512x512x128, .f32⟩
  | .hbm, ⟨121, _⟩ => ⟨S2x512x512x128, .f32⟩
  | .hbm, ⟨122, _⟩ => ⟨S2x512x512x128, .bf16⟩
  | _, _ => ⟨S2x512x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst_1 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_2 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_3 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩

abbrev nD : Nat := 1
abbrev τ : Topo := Topo.v7x

variable {F : FTy → Type} [FloatOps F]
-- ==== Proof.Talk.Proto.lean ====
/- The exchange between the four devices: who writes what into whose buffers, which semaphore tells of it, and what each
   buffer holds once its copy has landed. -/
module

public import proofs.«01_k».proof.Proof.Gen.KernelIdeal.Regions
public import proofs.«01_k».proof.Proof.Gen.KernelIdeal.Skeleton
public import Idealize.ShloMosaic.Lib.Pipeline.RegionTalk
public import Idealize.ShloMosaic.Lib.Rounds
public import Idealize.ShloMosaic.Lib.Transfers
public import Idealize.ShloMosaic.Lib.Tactic
public import Idealize.ShloMosaic.Lib.Pointwise.Index

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal.Gen

variable {F : FTy → Type} [FloatOps F]

/-! ## The neighbours -/

/-- The neighbour of device `c` in direction `d`: across the first axis, across the second, across both. -/
def nb (d : Fin 3) (c : Dev nD) : Dev nD :=
  match d with
  | 0 => ⟨((c.val % 2) + 2) - 2 * (c.val / 2), by have := c.isLt; simp only [nD] at *; omega⟩
  | 1 => ⟨(2 * (c.val / 2) + 1) - (c.val % 2), by have := c.isLt; simp only [nD] at *; omega⟩
  | 2 => ⟨3 - (2 * (c.val / 2) + (c.val % 2)), by have := c.isLt; simp only [nD] at *; omega⟩

theorem nb_nb : ∀ (d : Fin 3) (c : Dev nD), nb d (nb d c) = c := by decide
theorem nb_inj : ∀ (d d' : Fin 3) (c : Dev nD), nb d c = nb d' c → d = d' := by decide
theorem nb_ne : ∀ (d : Fin 3) (c : Dev nD), nb d c ≠ c := by decide

/-! ## The semaphores and their cells -/

abbrev doneS : Sem sig := 1
/-- The semaphore that counts copy `k` out of this device's buffer. -/
def sendS (k : Fin 6) : DmaSem sig := ⟨13 + k.val, by have := k.isLt; simp only [sig]; omega⟩
/-- The semaphore that counts copy `k` into this device's buffer. -/
def recvS (k : Fin 6) : DmaSem sig := ⟨19 + k.val, by have := k.isLt; simp only [sig]; omega⟩

abbrev barCell (c : Dev nD) : GSem nD τ sig := ((c : Thread nD τ), .reg barrier0)
abbrev doneCell (c : Dev nD) : GSem nD τ sig := ((c : Thread nD τ), .reg doneS)
abbrev sendCell (k : Fin 6) (c : Dev nD) : GSem nD τ sig := ((c : Thread nD τ), .dma (sendS k))
abbrev recvCell (k : Fin 6) (c : Dev nD) : GSem nD τ sig := ((c : Thread nD τ), .dma (recvS k))

/-- The direction copy `k` goes: three strips, then three times the statistics. -/
def dir (k : Fin 6) : Fin 3 := ⟨k.val % 3, Nat.mod_lt _ (by decide)⟩

/-! ## The buffers -/

abbrev rowM : Memref sig .tc .vmem S2x256x128 .bf16 := Memref.whole cc1_scratch3
abbrev colM : Memref sig .tc .vmem S2x256x128 .bf16 := Memref.whole cc1_scratch4
abbrev cornM : Memref sig .tc .vmem S2x1x128 .bf16 := Memref.whole cc1_scratch5
abbrev statM : Memref sig .tc .vmem S2x2x128 .f32 := Memref.whole cc1_scratch6
abbrev hrowM : Memref sig .tc .vmem S2x256x128 .bf16 := Memref.whole cc1_stg3_0
abbrev hcolM : Memref sig .tc .vmem S2x256x128 .bf16 := Memref.whole cc1_stg4_0
abbrev hcornM : Memref sig .tc .vmem S2x1x128 .bf16 := Memref.whole cc1_stg5_0
abbrev gotM : Memref sig .tc .vmem S3x2x2x128 .f32 := Memref.whole cc1_scratch7
/-- The slots of the received statistics. -/
abbrev slot0 : Memref sig .tc .vmem S2x2x128 .f32 := (gotM.slice (Rect.unit (s := S3x2x2x128) ![0, 0, 0, 0] S1x2x2x128.size inb_S3x2x2x128_S1x2x2x128_0_0_0_0) (fun _ => rfl)).squeeze S2x2x128 squeezes_S1x2x2x128_S2x2x128
abbrev slot1 : Memref sig .tc .vmem S2x2x128 .f32 := (gotM.slice (Rect.unit (s := S3x2x2x128) ![1, 0, 0, 0] S1x2x2x128.size inb_S3x2x2x128_S1x2x2x128_1_0_0_0) (fun _ => rfl)).squeeze S2x2x128 squeezes_S1x2x2x128_S2x2x128
abbrev slot2 : Memref sig .tc .vmem S2x2x128 .f32 := (gotM.slice (Rect.unit (s := S3x2x2x128) ![2, 0, 0, 0] S1x2x2x128.size inb_S3x2x2x128_S1x2x2x128_2_0_0_0) (fun _ => rfl)).squeeze S2x2x128 squeezes_S1x2x2x128_S2x2x128

/-! ## What the buffers hold, from what each device holds at entry -/

abbrev Vals (F : FTy → Type) : Type := Dev nD → Valuation τ sig (Elt F)

abbrev argM : Memref sig .tc .hbm S2x256x256x128 .f32 := Memref.whole main_arg0
abbrev rowSrc (c : Dev nD) : Memref sig .tc .hbm S2x1x256x128 .f32 := argM.slice (Rect.unit (s := S2x256x256x128) (k1_off1 c) S2x1x256x128.size (k1_off1_inb c)) (fun _ => rfl)
abbrev colSrc (c : Dev nD) : Memref sig .tc .hbm S2x256x1x128 .f32 := argM.slice (Rect.unit (s := S2x256x256x128) (k1_off2 c) S2x256x1x128.size (k1_off2_inb c)) (fun _ => rfl)
abbrev cornSrc (c : Dev nD) : Memref sig .tc .hbm S2x1x1x128 .f32 := argM.slice (Rect.unit (s := S2x256x256x128) (k1_off3 c) S2x1x1x128.size (k1_off3_inb c)) (fun _ => rfl)

variable (W : Vals F)

/-- The strip of rows device `c` sends: its first or last row of `x`, rounded. -/
def rowC (c : Dev nD) : Vec F S2x256x128 .bf16 := k1_pay2 ((rowSrc c).view.read (Elt F) (W c main_arg0))
/-- The strip of columns device `c` sends. -/
def colC (c : Dev nD) : Vec F S2x256x128 .bf16 := k1_pay3 ((colSrc c).view.read (Elt F) (W c main_arg0))
/-- The corner device `c` sends. -/
def cornC (c : Dev nD) : Vec F S2x1x128 .bf16 := k1_pay4 ((cornSrc c).view.read (Elt F) (W c main_arg0))
/-- The two sums device `c` sends. -/
def statC (c : Dev nD) : Vec F S2x2x128 .f32 :=
  fun i => if (i 0).val = 0 then (W c main_v1_0 : Vec F S2x128 .f32) (ix2 (i 1) (i 2)) else (W c main_v1_1 : Vec F S2x128 .f32) (ix2 (i 1) (i 2))
/-- The sums device `c` has received from its three neighbours. -/
def gotC (c : Dev nD) : Vec F S3x2x2x128 .f32 := fun i => statC W (nb (i 0) c) (ix3 (i 1) (i 2) (i 3))

/-! ## The ghost algebra -/

abbrev UT : Type := URounds (GSem nD τ sig) (Fin 3)
abbrev UU : Type := UR sig nD τ × (UT × Counters)

local notation "𝕄" => MT nD τ sig Unit (Elt F) ℕ UU ℕ

abbrev EP : Emb (UR sig nD τ) (MT nD τ sig Unit (Elt F) ℕ UU ℕ) := embL
/-- Where the exchange's rounds live: the left half of the right factor. -/
def ER : Emb UT (MT nD τ sig Unit (Elt F) ℕ UU ℕ) :=
  ((Emb.inl : Emb UT (UT × Counters)).trans (Emb.inr : Emb (UT × Counters) UU)).trans
    (uEmb (nD := nD) (sig := sig) (Ix := Unit) (Val := Elt F) (Name := ℕ) (U := UU) (Lvl := ℕ)).toEmb
instance ER_landsIn : (ER : Emb UT 𝕄).LandsIn (upEmb : UEmb _ 𝕄) := by unfold ER; infer_instance

/-- A memory reference's elements on device `c`, at share `q` and contents `f`. -/
abbrev mpts {sp : Space} {s : Shape} {e : EltTy} (M : Memref sig .tc sp s e) (c : Dev nD) (q : PosShare TreeShare)
    (f : Buf (Elt F) (M.view.loc (c : Thread nD τ))) : sProp 𝕄 :=
  M.view.loc (c : Thread nD τ) ↦[M.view.set]{q} f

/-- What copy `k` out of device `c` gives back once it has left: its source. -/
def sendPay (k : Fin 6) (c : Dev nD) : sProp 𝕄 :=
  match k with
  | 0 => mpts rowM c fullShare (rowC W c)
  | 1 => mpts colM c fullShare (colC W c)
  | 2 => mpts cornM c fullShare (cornC W c)
  | 3 => mpts statM c fullShare.left (statC W c)
  | 4 => mpts statM c fullShare.right.left (statC W c)
  | 5 => mpts statM c fullShare.right.right (statC W c)

/-- What copy `k` into device `c` leaves there: its neighbour's strip or sums. -/
def recvPay (k : Fin 6) (c : Dev nD) : sProp 𝕄 :=
  match k with
  | 0 => mpts hrowM c fullShare (rowC W (nb 0 c))
  | 1 => mpts hcolM c fullShare (colC W (nb 1 c))
  | 2 => mpts hcornM c fullShare (cornC W (nb 2 c))
  | 3 => mpts slot0 c fullShare (gotC W c)
  | 4 => mpts slot1 c fullShare (gotC W c)
  | 5 => mpts slot2 c fullShare (gotC W c)

/-- The buffer copy `k` into device `c` lands in, whatever it holds. -/
def landing (k : Fin 6) (c : Dev nD) : sProp 𝕄 :=
  match k with
  | 0 => iprop(∃ f, mpts (F := F) hrowM c fullShare f)
  | 1 => iprop(∃ f, mpts (F := F) hcolM c fullShare f)
  | 2 => iprop(∃ f, mpts (F := F) hcornM c fullShare f)
  | 3 => iprop(∃ f, mpts (F := F) slot0 c fullShare f)
  | 4 => iprop(∃ f, mpts (F := F) slot1 c fullShare f)
  | 5 => iprop(∃ f, mpts (F := F) slot2 c fullShare f)

/-- The copy of the sums that goes the same way as strip `d`. -/
def up (d : Fin 3) : Fin 6 := ⟨d.val + 3, by have := d.isLt; omega⟩
/-- The copy of strip `d`. -/
def lo (d : Fin 3) : Fin 6 := ⟨d.val, by have := d.isLt; omega⟩

/-- What a device hands its neighbour `c` by the signal in direction `d`: the two buffers the neighbour's copies land in, and
    that their semaphores and the last one are ready. -/
def barPay (d : Fin 3) (c : Dev nD) : sProp 𝕄 :=
  iprop(landing (lo d) (nb d c) ∗ landing (up d) (nb d c) ∗ reached ER (recvCell (lo d) (nb d c)) 0 ∗ reached ER (recvCell (up d) (nb d c)) 0
    ∗ reached ER (doneCell (nb d c)) 0)

/-! ## The schedule -/

/-- What one copy adds to its semaphores. -/
def cr (k : Fin 6) : ℕ :=
  match k with
  | 0 => rowM.view.dmaCredit
  | 1 => colM.view.dmaCredit
  | 2 => cornM.view.dmaCredit
  | _ => statM.view.dmaCredit

theorem cr_pos (k : Fin 6) : 0 < cr k := by
  match k with
  | 0 => exact View.dmaCredit_pos _ (by decide)
  | 1 => exact View.dmaCredit_pos _ (by decide)
  | 2 => exact View.dmaCredit_pos _ (by decide)
  | 3 => exact View.dmaCredit_pos _ (by decide)
  | 4 => exact View.dmaCredit_pos _ (by decide)
  | 5 => exact View.dmaCredit_pos _ (by decide)

/-- What a semaphore is for: the first signal, the last one, a copy out, a copy in, or none of these. -/
inductive Kind where
  | bar | done | send (k : Fin 6) | recv (k : Fin 6) | none
deriving DecidableEq

def kind : SemLoc sig → Kind
  | .reg s => if s = barrier0 then .bar else if s = doneS then .done else .none
  | .dma s => if h : 13 ≤ s.val ∧ s.val < 19 then .send ⟨s.val - 13, by omega⟩ else if h : 19 ≤ s.val ∧ s.val < 25 then .recv ⟨s.val - 19, by omega⟩ else .none

theorem kind_bar : kind (.reg barrier0) = .bar := by decide
theorem kind_done : kind (.reg doneS) = .done := by decide
theorem kind_send : ∀ k, kind (.dma (sendS k)) = .send k := by decide
theorem kind_recv : ∀ k, kind (.dma (recvS k)) = .recv k := by decide

def kDuties : Kind → Finset (Fin 3)
  | .bar => Finset.univ | .done => Finset.univ | .send _ => {0} | .recv _ => {0} | .none => ∅
def kAmount : Kind → ℕ
  | .send k => cr k | .recv k => cr k | _ => 1
def kPayload (c : Dev nD) (d : Fin 3) : Kind → sProp 𝕄
  | .bar => barPay d c | .send k => sendPay W k c | .recv k => recvPay W k c | _ => iprop(emp)

/-- One round on every cell: three units by three neighbours on the two signals, one copy on the others. -/
def rd : Rounds.Schedule (GSem nD τ sig) (Fin 3) 𝕄 where
  duties g r := if r = 0 ∧ g.1.2 = .tc then kDuties (kind g.2) else ∅
  unitless _ := False
  amount g _ _ := kAmount (kind g.2)
  payload g _ d := kPayload W g.1.1 d (kind g.2)
  amount_pos g _ _ _ := by
    show 0 < kAmount (kind g.2)
    cases kind g.2 <;> first | exact Nat.one_pos | exact cr_pos _

theorem any_storable {sp : Space} {s : Shape} {e : EltTy} (M : Memref sig .tc sp s e) (c : Dev nD) :
    BI.Storable (upEmb : UEmb _ 𝕄) iprop(∃ f, mpts (F := F) M c fullShare f) := by infer_instance
instance landing_storable (k : Fin 6) (c : Dev nD) : BI.Storable (upEmb : UEmb _ 𝕄) (landing (F := F) k c) := by
  unfold landing; split <;> exact any_storable _ _
instance barPay_storable (d : Fin 3) (c : Dev nD) : BI.Storable (upEmb : UEmb _ 𝕄) (barPay (F := F) d c) := by
  unfold barPay; infer_instance
instance sendPay_storable (k : Fin 6) (c : Dev nD) : BI.Storable (upEmb : UEmb _ 𝕄) (sendPay W k c) := by
  unfold sendPay; split <;> infer_instance
instance recvPay_storable (k : Fin 6) (c : Dev nD) : BI.Storable (upEmb : UEmb _ 𝕄) (recvPay W k c) := by
  unfold recvPay; split <;> infer_instance
instance rd_storable (g : GSem nD τ sig) (r : ℕ) (d : Fin 3) : BI.Storable (upEmb : UEmb _ 𝕄) ((rd W).payload g r d) := by
  show BI.Storable upEmb (kPayload W g.1.1 d (kind g.2))
  unfold kPayload; split <;> infer_instance

section Tables
variable (c : Dev nD) (k : Fin 6) (d : Fin 3)

theorem duties_bar : (rd W).duties (barCell c) 0 = Finset.univ := by
  show (if (0:ℕ) = 0 ∧ ((c : Thread nD τ)).2 = .tc then kDuties (kind (.reg barrier0)) else ∅) = _; rw [if_pos ⟨rfl, rfl⟩, kind_bar]; rfl
theorem duties_done : (rd W).duties (doneCell c) 0 = Finset.univ := by
  show (if (0:ℕ) = 0 ∧ ((c : Thread nD τ)).2 = .tc then kDuties (kind (.reg doneS)) else ∅) = _; rw [if_pos ⟨rfl, rfl⟩, kind_done]; rfl
theorem duties_send : (rd W).duties (sendCell k c) 0 = {0} := by
  show (if (0:ℕ) = 0 ∧ ((c : Thread nD τ)).2 = .tc then kDuties (kind (.dma (sendS k))) else ∅) = _; rw [if_pos ⟨rfl, rfl⟩, kind_send]; rfl
theorem duties_recv : (rd W).duties (recvCell k c) 0 = {0} := by
  show (if (0:ℕ) = 0 ∧ ((c : Thread nD τ)).2 = .tc then kDuties (kind (.dma (recvS k))) else ∅) = _; rw [if_pos ⟨rfl, rfl⟩, kind_recv]; rfl
theorem duties_later (g : GSem nD τ sig) : ∀ r, 0 + 1 ≤ r → (rd W).duties g r = ∅ :=
  fun r hr => if_neg (fun h => by omega)

theorem amount_bar : (rd W).amount (barCell c) 0 d = 1 := by show kAmount (kind (.reg barrier0)) = _; rw [kind_bar]; rfl
theorem amount_done : (rd W).amount (doneCell c) 0 d = 1 := by show kAmount (kind (.reg doneS)) = _; rw [kind_done]; rfl
theorem amount_send : (rd W).amount (sendCell k c) 0 d = cr k := by show kAmount (kind (.dma (sendS k))) = _; rw [kind_send]; rfl
theorem amount_recv : (rd W).amount (recvCell k c) 0 d = cr k := by show kAmount (kind (.dma (recvS k))) = _; rw [kind_recv]; rfl

theorem expect_bar : (rd W).expect (barCell c) 0 = 3 := by
  unfold Schedule.expect Schedule.amountOf; rw [duties_bar, Finset.sum_congr rfl (fun d _ => amount_bar W c d)]; rfl
theorem expect_done : (rd W).expect (doneCell c) 0 = 3 := by
  unfold Schedule.expect Schedule.amountOf; rw [duties_done, Finset.sum_congr rfl (fun d _ => amount_done W c d)]; rfl
theorem expect_send : (rd W).expect (sendCell k c) 0 = cr k := by
  unfold Schedule.expect Schedule.amountOf; rw [duties_send, Finset.sum_singleton, amount_send]
theorem expect_recv : (rd W).expect (recvCell k c) 0 = cr k := by
  unfold Schedule.expect Schedule.amountOf; rw [duties_recv, Finset.sum_singleton, amount_recv]

theorem payload_bar : (rd W).payload (barCell c) 0 d = barPay d c := by
  show kPayload W c d (kind (.reg barrier0)) = _; rw [kind_bar]; rfl
theorem payload_done : (rd W).payload (doneCell c) 0 d = iprop(emp) := by
  show kPayload W c d (kind (.reg doneS)) = _; rw [kind_done]; rfl
theorem payload_send : (rd W).payload (sendCell k c) 0 d = sendPay W k c := by
  show kPayload W c d (kind (.dma (sendS k))) = _; rw [kind_send]; rfl
theorem payload_recv : (rd W).payload (recvCell k c) 0 d = recvPay W k c := by
  show kPayload W c d (kind (.dma (recvS k))) = _; rw [kind_recv]; rfl

theorem univ3 (Φ : Fin 3 → sProp 𝕄) : bigSep Finset.univ Φ = iprop(Φ 0 ∗ Φ 1 ∗ Φ 2) := bigSep_W0 Φ

theorem rest_bar : bigSep ((rd W).duties (barCell c) 0 \ ∅) (fun d => (rd W).payload (barCell c) 0 d) = iprop(barPay 0 c ∗ barPay 1 c ∗ barPay 2 c) := by
  rw [Finset.sdiff_empty, duties_bar, univ3, payload_bar, payload_bar, payload_bar]
theorem rest_send : bigSep ((rd W).duties (sendCell k c) 0 \ ∅) (fun d => (rd W).payload (sendCell k c) 0 d) = sendPay W k c := by
  rw [Finset.sdiff_empty, duties_send, bigSep_singleton, payload_send]
theorem rest_recv : bigSep ((rd W).duties (recvCell k c) 0 \ ∅) (fun d => (rd W).payload (recvCell k c) 0 d) = recvPay W k c := by
  rw [Finset.sdiff_empty, duties_recv, bigSep_singleton, payload_recv]

end Tables

/-! ## What a device owes its neighbours, in the order it pays; the levels -/

/-- The payment that leaves `j` more to make. -/
def due (j : ℕ) (c : Dev nD) : CellTallies nD τ sig Unit :=
  match j with
  | 0 => tallyAt (doneCell (nb 2 c)) () 1
  | 1 => tallyAt (doneCell (nb 1 c)) () 1
  | 2 => tallyAt (doneCell (nb 0 c)) () 1
  | 3 => tallyAt (recvCell 5 (nb 2 c)) () (cr 5)
  | 4 => tallyAt (recvCell 4 (nb 1 c)) () (cr 4)
  | 5 => tallyAt (recvCell 3 (nb 0 c)) () (cr 3)
  | 6 => tallyAt (recvCell 2 (nb 2 c)) () (cr 2)
  | 7 => tallyAt (recvCell 1 (nb 1 c)) () (cr 1)
  | 8 => tallyAt (recvCell 0 (nb 0 c)) () (cr 0)
  | 9 => tallyAt (barCell (nb 2 c)) () 1
  | 10 => tallyAt (barCell (nb 1 c)) () 1
  | 11 => tallyAt (barCell (nb 0 c)) () 1
  | _ => 0

/-- What is still owed with `j` payments to make. -/
def owed (j : ℕ) (c : Dev nD) : CellTallies nD τ sig Unit :=
  match j with
  | 0 => 0
  | j + 1 => owed j c + due j c

abbrev O₀ (c : Dev nD) : CellTallies nD τ sig Unit := owed 12 c

def L (g : GSem nD τ sig) : Finset Unit := if g.1.2 = .tc then {()} else ∅
def kLevel : Kind → ℕ
  | .bar => 1 | .recv _ => 2 | .done => 3 | _ => 0
def lv (g : GSem nD τ sig) (_ : Unit) : ℕ := kLevel (kind g.2)

theorem L_of_ne (g : GSem nD τ sig) (h : g.1.2 ≠ .tc) : L g = ∅ := if_neg h
theorem L_tc (c : Dev nD) (sm : SemLoc sig) : L ((c : Thread nD τ), sm) = {()} := if_pos rfl

/-- The level of the `j`-th payment's cell. -/
def dueLv (j : ℕ) : ℕ := if j < 3 then 3 else if j < 9 then 2 else 1

theorem due_lv (j : ℕ) (c : Dev nD) (g : GSem nD τ sig) (u : Unit) (h : 0 < due j c g u) : g.1.2 = .tc ∧ lv g u = dueLv j := by
  have key : ∀ (g' : GSem nD τ sig) (n l : ℕ), g'.1.2 = .tc → lv g' () = l → 0 < tallyAt g' () n g u → g.1.2 = .tc ∧ lv g u = l := by
    intro g' n l h1 h2 h3
    rw [tallyAt_apply] at h3
    by_cases h' : g = g' ∧ u = ()
    · rw [h'.1]; exact ⟨h1, h2⟩
    · rw [if_neg h'] at h3; exact absurd h3 (Nat.lt_irrefl 0)
  have hd : ∀ c, lv (doneCell c) () = 3 := fun c => by show kLevel (kind (.reg doneS)) = 3; rw [kind_done]; rfl
  have hb : ∀ c, lv (barCell c) () = 1 := fun c => by show kLevel (kind (.reg barrier0)) = 1; rw [kind_bar]; rfl
  have hr : ∀ k c, lv (recvCell k c) () = 2 := fun k c => by show kLevel (kind (.dma (recvS k))) = 2; rw [kind_recv]; rfl
  match j, h with
  | 0, h => exact key _ _ _ rfl (hd _) h
  | 1, h => exact key _ _ _ rfl (hd _) h
  | 2, h => exact key _ _ _ rfl (hd _) h
  | 3, h => exact key _ _ _ rfl (hr 5 _) h
  | 4, h => exact key _ _ _ rfl (hr 4 _) h
  | 5, h => exact key _ _ _ rfl (hr 3 _) h
  | 6, h => exact key _ _ _ rfl (hr 2 _) h
  | 7, h => exact key _ _ _ rfl (hr 1 _) h
  | 8, h => exact key _ _ _ rfl (hr 0 _) h
  | 9, h => exact key _ _ _ rfl (hb _) h
  | 10, h => exact key _ _ _ rfl (hb _) h
  | 11, h => exact key _ _ _ rfl (hb _) h
  | n + 12, h => exact absurd h (Nat.lt_irrefl 0)

theorem owed_lv (j : ℕ) (c : Dev nD) (g : GSem nD τ sig) (u : Unit) (h : 0 < owed j c g u) : ∃ i < j, g.1.2 = .tc ∧ lv g u = dueLv i := by
  induction j with
  | zero => exact absurd h (Nat.lt_irrefl 0)
  | succ j ih =>
    have h' : 0 < owed j c g u + due j c g u := h
    rcases Nat.eq_zero_or_pos (owed j c g u) with h0 | h0
    · rw [h0, Nat.zero_add] at h'; exact ⟨j, Nat.lt_succ_self j, due_lv j c g u h'⟩
    · obtain ⟨i, hi, hh⟩ := ih h0; exact ⟨i, Nat.lt_succ_of_lt hi, hh⟩

/-- A device may wait on a cell of its own at a level below everything it still owes. -/
theorem mayWait (c : Dev nD) (sm : SemLoc sig) (j : ℕ) (h : ∀ i < j, kLevel (kind sm) < dueLv i) :
    (levAts L lv : sProp 𝕄) ⊢ MayWait (c : Thread nD τ) sm () (owed j c) :=
  MayOwe.of_cut (L := L) (lev := lv) (kLevel (kind sm)) (fun p hp => by rw [Finset.mem_singleton.mp hp, L_tc]; exact Finset.mem_singleton_self _)
    (fun g u hg => by
      obtain ⟨i, -, h1, -⟩ := owed_lv j c g u hg
      unfold L; rw [if_pos h1]; exact Finset.mem_singleton_self _)
    (fun p hp => by rw [Finset.mem_singleton.mp hp]; exact le_refl _)
    (fun g u hg => by
      obtain ⟨i, hi, -, h2⟩ := owed_lv j c g u hg
      rw [h2]; exact h i hi)

end Cert.KernelIdeal.Talk
-- ==== Proof.Talk.Steps.lean ====
/- One step of the exchange at a time: a signal to a neighbour, a wait on a cell of one's own, a copy to a neighbour. -/
module

public import proofs.«01_k».proof.Proof.Talk.Proto

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (W : Vals F)

abbrev 𝒱₀ : Variants := Variants.none

/-- What core `c` owes, whatever it has waited for. -/
def ow (c : Dev nD) (O : CellTallies nD τ sig Unit) : sProp 𝕄 := iprop(∃ S, owes (c : Thread nD τ) O S)

/-- A signal of one unit to cell `(e, s)`: its token and payload go, the unit is no longer owed. -/
theorem step_signal (c e e' : Dev nD) (he : e' = e) (s : Sem sig) (d : Fin 3) (κ : ℕ) (O : CellTallies nD τ sig Unit)
    (hd : d ∈ (rd W).duties ((e : Thread nD τ), .reg s) 0) (ha : (rd W).amount ((e : Thread nD τ), .reg s) 0 d = 1)
    {α : Type} {k : PUnit → Prog (TpuEff nD τ sig (Elt F) Λ₀ .tc) α} {Q : α → sProp 𝕄} :
    iprop(cellInv ER (rd W) κ ((e : Thread nD τ), .reg s) ∗ reached ER ((e : Thread nD τ), .reg s) 0
        ∗ ow c (O + tallyAt ((e : Thread nD τ), .reg s) () 1) ∗ dutyTok ER ((e : Thread nD τ), .reg s) 0 d
        ∗ (rd W).payload ((e : Thread nD τ), .reg s) 0 d)
      ⊢ iprop((ow c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (e' : Thread nD τ) s 1) k) Q) := by
  subst he
  unfold ow
  iintro ⟨#HI, #Hr, ⟨%S, HO⟩, Ht, Hp⟩ Hk
  iapply (Rounds.wp_signal 𝒱₀ ER (rd W) (c : Thread nD τ) none (dst := (e' : Thread nD τ)) (sem := s) (r := 0) (d := d) (κ := κ) hd ha () O rfl)
    $$ [HO Ht Hp]
  · isplitr; · iexact HI
    isplitl [HO]; · iexact HO
    isplitl [Ht]; · iexact Ht
    isplitl [Hp]; · iexact Hp
    iexact Hr
  iintro HO
  iapply Hk
  iexists S; iexact HO

/-- A wait for everything a cell of one's own expects: its payloads come. -/
theorem step_wait (c : Dev nD) (sm : SemLoc sig) (n j : ℕ) (κ : ℕ) (w : TpuEff nD τ sig (Elt F) Λ₀ .tc PUnit)
    (hw : ∀ K : PUnit → sProp 𝕄, wpE (defs₀ (F := F)) 𝒱₀ (c : Thread nD τ) none Set.univ w K = waitSpec (c : Thread nD τ) Set.univ sm n K)
    (he : (rd W).expect ((c : Thread nD τ), sm) 0 = n) (hl : ∀ i < j, kLevel (kind sm) < dueLv i)
    {α : Type} {k : PUnit → Prog (TpuEff nD τ sig (Elt F) Λ₀ .tc) α} {Q : α → sProp 𝕄} :
    iprop(cellInv ER (rd W) κ ((c : Thread nD τ), sm) ∗ levAts L lv
        ∗ cred (tallyAt ((c : Thread nD τ), sm) () n) ∗ ow c (owed j c) ∗ atPos ER ((c : Thread nD τ), sm) 0 ∅ 0)
      ⊢ iprop(((ow c (owed j c) ∗ atPos ER ((c : Thread nD τ), sm) (0 + 1) ∅ 0
            ∗ bigSep ((rd W).duties ((c : Thread nD τ), sm) 0 \ ∅) (fun d => (rd W).payload ((c : Thread nD τ), sm) 0 d))
              -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  unfold ow
  iintro ⟨#HI, #Hlev, Hc, ⟨%S, HO⟩, Hat⟩ Hk
  iapply (Rounds.wp_wait_rest_token 𝒱₀ ER (rd W) (c : Thread nD τ) none (κ := κ)
      (w := w) hw (Set.mem_univ _) () (O := owed j c) (W := S) (R := 0) (m := 0) (T := ∅)
      ((Nat.zero_add n).trans he.symm)) $$ [Hc HO Hat]
  · isplitr; · iexact HI
    isplitl [Hc]; · iexact Hc
    isplitl [HO]; · iexact HO
    isplitr; · iapply (mayWait c sm j hl); iexact Hlev
    iexact Hat
  iintro ⟨HO, Hat, -, Hp⟩
  iapply Hk
  isplitl [HO]; · iexists _; iexact HO
  isplitl [Hat]; · iexact Hat
  iexact Hp

/-- The same for a wait on a copy's semaphore. -/
theorem step_waitDma (c : Dev nD) (sm : DmaSem sig) (n j : ℕ) (κ : ℕ)
    {sp sp' : Space} {s s' : Shape} {et et' : EltTy} (src : Memref sig .tc sp' s' et') (dst : Memref sig .tc sp s et)
    {hsrc : src.view.WordExact} {hdst : dst.view.WordExact} (hn : dst.view.dmaCredit = n)
    (he : (rd W).expect ((c : Thread nD τ), .dma sm) 0 = n) (hl : ∀ i < j, kLevel (kind (.dma sm)) < dueLv i)
    {α : Type} {k : PUnit → Prog (TpuEff nD τ sig (Elt F) Λ₀ .tc) α} {Q : α → sProp 𝕄} :
    iprop(cellInv ER (rd W) κ ((c : Thread nD τ), .dma sm) ∗ levAts L lv
        ∗ cred (tallyAt ((c : Thread nD τ), .dma sm) () n) ∗ ow c (owed j c) ∗ atPos ER ((c : Thread nD τ), .dma sm) 0 ∅ 0)
      ⊢ iprop(((ow c (owed j c) ∗ atPos ER ((c : Thread nD τ), .dma sm) (0 + 1) ∅ 0
            ∗ bigSep ((rd W).duties ((c : Thread nD τ), .dma sm) 0 \ ∅) (fun d => (rd W).payload ((c : Thread nD τ), .dma sm) 0 d))
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  subst hn
  exact step_wait W c (.dma sm) _ j κ _ (wpE_waitDma2_eq 𝒱₀ (c : Thread nD τ) none Set.univ) he hl

/-- A program that has returned. -/
theorem step_ret (c : Dev nD) {α : Type} (a : α) {Q : α → sProp 𝕄} :
    Q a ⊢ wp frame (wpE (defs₀ (F := F)) 𝒱₀ (c : Thread nD τ) none) Set.univ (.ret a) Q := by
  rw [wp_ret]; exact BI.fupd_intro

/-- Closing a cell after its one round: its counter is back at zero. -/
theorem close (κ : ℕ) (g : GSem nD τ sig) :
    iprop(cellInv ER (rd W) κ g ∗ atPos ER g (0 + 1) ∅ 0) ⊢ (|={Set.univ}=> semVal g 0 : sProp 𝕄) :=
  Rounds.cell_close ER (rd W) (Set.mem_univ κ) id (duties_later W g)

/-- A copy to a neighbour: the source's share and the landing buffer go, the neighbour's credit is no longer owed. -/
theorem step_copy (c e e' : Dev nD) (he : e' = e) (kk : Fin 6) (κ₁ κ₂ : ℕ) (O : CellTallies nD τ sig Unit)
    {sp sp' : Space} {s : Shape} {et : EltTy}
    (src : Memref sig .tc sp s et) (dst : Memref sig .tc sp' s et) {hsc : dst.view.ref.isScScratch = false}
    {hsrc : src.view.WordExact} {hdst : dst.view.WordExact}
    {hsem : DmaTarget.Typed sp (.dma (recvS kk)) (.remote (e' : Thread nD τ) dst (.dma (sendS kk)) hsc)}
    (q : PosShare TreeShare) (fs : Buf (Elt F) (src.view.loc (c : Thread nD τ))) (fd : Buf (Elt F) (dst.view.loc (e : Thread nD τ)))
    (hN : dst.view.amount (.dma (recvS kk)) = cr kk)
    (h₁ : mpts (F := F) src c q fs ⊢ sendPay W kk c)
    (h₂ : mpts (F := F) dst e fullShare (dst.view.write (Elt F) fd (src.view.read (Elt F) fs) Finset.univ) ⊢ recvPay W kk e)
    {α : Type} {k : PUnit → Prog (TpuEff nD τ sig (Elt F) Λ₀ .tc) α} {Q : α → sProp 𝕄} :
    iprop(cellInv ER (rd W) κ₁ (sendCell kk c) ∗ cellInv ER (rd W) κ₂ (recvCell kk e)
        ∗ reached ER (sendCell kk c) 0 ∗ reached ER (recvCell kk e) 0
        ∗ mpts (F := F) src c q fs ∗ mpts (F := F) dst e fullShare fd ∗ ow c (O + tallyAt (recvCell kk e) () (cr kk))
        ∗ dutyTok ER (sendCell kk c) 0 0 ∗ dutyTok ER (recvCell kk e) 0 0)
      ⊢ iprop(((cred (tallyAt (sendCell kk c) () (cr kk)) ∗ ow c O)
              -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma src (.remote (e' : Thread nD τ) dst (.dma (sendS kk)) hsc) (.dma (recvS kk)) hsrc hdst hsem) k) Q) := by
  subst he
  unfold ow
  iintro ⟨#HI1, #HI2, #Hr1, #Hr2, Hs, Hd, ⟨%S, HO⟩, Ht1, Ht2⟩ Hk
  iapply (Rounds.wp_send_pointsTo 𝒱₀ ER (rd W) (c : Thread nD τ) none (c' := (e' : Thread nD τ)) (src := src) (dst := dst)
      (sS := .dma (sendS kk)) (sem := .dma (recvS kk)) (q := q) (fs := fs) (κ₁ := κ₁) (κ₂ := κ₂)
      (r₁ := 0) (r₂ := 0) (d₁ := 0) (d₂ := 0) (fd := fd)
      (by rw [duties_send]; exact Finset.mem_singleton_self _) (by rw [duties_recv]; exact Finset.mem_singleton_self _)
      () () (cr kk) hN (amount_send W c kk 0) (amount_recv W e' kk 0) O rfl (W := S)
      (by rw [payload_send]; exact h₁) (by rw [payload_recv]; exact h₂)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists S; iexact HO

end Cert.KernelIdeal.Talk
-- ==== Proof.Stats.Run.lean ====
/- The first call: each device adds up its own `x` and the squares of its own `x`, block by block. -/
module

public import proofs.«01_k».proof.Proof.Talk.Steps
public import proofs.«01_k».proof.Proof.Gen.KernelIdeal.Points
public import Idealize.ShloMosaic.Lib.Exec
public import Idealize.ShloMosaic.Lib.Pipeline.FrameBody
public import Idealize.ShloMosaic.Lib.Pipeline.TableIdle
public import Idealize.ShloMosaic.Lib.VecWindow
public import Idealize.ShloMosaic.Lib.WordCmp

@[expose] public section

set_option maxRecDepth 16384

noncomputable section

namespace Cert.KernelIdeal.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal.Gen
open Cert.KernelIdeal.Talk (UU Vals 𝒱₀ O₀)

variable {F : FTy → Type} [FloatOps F]

local notation "𝕄" => MT nD τ sig Unit (Elt F) ℕ UU ℕ

variable (W : Vals F)

/-- A store over a whole buffer leaves what was stored. -/
theorem stored (M : Memref sig .tc .vmem S2x128 .f32) (c : Dev nD) (f : M.view.ty.Contents (Elt F)) (x y : Vec F S2x128 .f32)
    (inb : ∀ a, (![0, 0] : Fin 2 → ℕ) a + S2x128.size a ≤ S2x128.size a) (h : x = y) :
    (M.view.loc (c : Thread nD τ) ↦[M.view.set]{fullShare} M.view.writes (Elt F) f [⟨Rect.unit (s := S2x128) ![0, 0] S2x128.size inb, x⟩] : sProp 𝕄)
      ⊢ owns (c : Thread nD τ) M fullShare y := by
  subst h
  unfold owns
  iintro H
  iexists _; isplitr
  swap; · iexact H
  ipureintro
  exact View.read_writes_full M.view f inb x []

/-- At the first block the sums are started. -/
theorem run_first (c : Dev nD) (i : grid0.Coords) (a1 : Memref sig .tc .vmem S2x32x256x128 .f32) (h1 : a1.IsWhole) (a2 : Memref sig .tc .vmem S2x128 .f32) (h2 : a2.IsWhole)
    (a3 : Memref sig .tc .vmem S2x128 .f32) (h3 : a3.IsWhole) (hc0 : k0_cond1 i = 1#1) (hc1 : ¬k0_cond2 i = 1#1) (x : Vec F S2x32x256x128 .f32) (K : PUnit → sProp 𝕄) :
    iprop(owns (c : Thread nD τ) a1 fullShare x ∗ (∃ d, owns (c : Thread nD τ) a2 fullShare d) ∗ (∃ d, owns (c : Thread nD τ) a3 fullShare d)
        ∗ (iprop(owns (c : Thread nD τ) a1 fullShare x ∗ owns (c : Thread nD τ) a2 fullShare (k0_pay2 x) ∗ owns (c : Thread nD τ) a3 fullShare (k0_pay3 x)) -∗ K ⟨⟩))
      ⊢ wp frame (wpE (defs₀ (F := F)) 𝒱₀ (c : Thread nD τ) none) Set.univ (cc0__stats_body i a1 h1 a2 h2 a3 h3) K := by
  simp only [cc0__stats_body_eq_skeleton]; unfold cc0__stats_body_skel
  have hs := fun M f x y inb h => stored (F := F) M c f x y inb h
  unfold owns at hs ⊢
  iintro ⟨⟨%f0, %hf0, H0⟩, ⟨%d1, %f1, -, H1⟩, ⟨%d2, %f2, -, H2⟩, Hk⟩
  obtain rfl := h1.eq_unread hf0
  sl_exec (disch := first | sl_exact hc0 | sl_exact hc1)
  sl_step
  iapply Hk
  isplitl [H0]
  · iexists _; isplitr; · ipureintro; exact h1.read_unread _
    iexact H0
  isplitl [H1]; · iapply (hs a2 _ _ _ _ (by rw [View.readAt_full, h1.read_unread])) $$ H1
  iapply (hs a3 _ _ _ _ (by rw [View.readAt_full, h1.read_unread])) $$ H2

/-- At a later block the block's sums are added to what the blocks before gave. -/
theorem run_next (c : Dev nD) (i : grid0.Coords) (a1 : Memref sig .tc .vmem S2x32x256x128 .f32) (h1 : a1.IsWhole) (a2 : Memref sig .tc .vmem S2x128 .f32) (h2 : a2.IsWhole)
    (a3 : Memref sig .tc .vmem S2x128 .f32) (h3 : a3.IsWhole) (hc0 : ¬k0_cond1 i = 1#1) (hc1 : k0_cond2 i = 1#1) (x : Vec F S2x32x256x128 .f32) (s q : Vec F S2x128 .f32) (K : PUnit → sProp 𝕄) :
    iprop(owns (c : Thread nD τ) a1 fullShare x ∗ owns (c : Thread nD τ) a2 fullShare s ∗ owns (c : Thread nD τ) a3 fullShare q
        ∗ (iprop(owns (c : Thread nD τ) a1 fullShare x ∗ owns (c : Thread nD τ) a2 fullShare (k0_pay4 x s) ∗ owns (c : Thread nD τ) a3 fullShare (k0_pay5 x q)) -∗ K ⟨⟩))
      ⊢ wp frame (wpE (defs₀ (F := F)) 𝒱₀ (c : Thread nD τ) none) Set.univ (cc0__stats_body i a1 h1 a2 h2 a3 h3) K := by
  simp only [cc0__stats_body_eq_skeleton]; unfold cc0__stats_body_skel
  have hs := fun M f x y inb h => stored (F := F) M c f x y inb h
  unfold owns at hs ⊢
  iintro ⟨⟨%f0, %hf0, H0⟩, ⟨%f1, %hf1, H1⟩, ⟨%f2, %hf2, H2⟩, Hk⟩
  obtain rfl := h1.eq_unread hf0
  obtain rfl := h2.eq_unread hf1
  obtain rfl := h3.eq_unread hf2
  sl_exec (disch := first | sl_exact hc0 | sl_exact hc1)
  sl_step
  iapply Hk
  isplitl [H0]
  · iexists _; isplitr; · ipureintro; exact h1.read_unread _
    iexact H0
  isplitl [H1]; · iapply (hs a2 _ _ _ _ (by rw [View.readAt_full, View.readAt_full, h1.read_unread, h2.read_unread])) $$ H1
  iapply (hs a3 _ _ _ _ (by rw [View.readAt_full, View.readAt_full, h1.read_unread, h3.read_unread])) $$ H2

/-! ## The blocks and the sums -/

/-- Block `t` of a device's `x`: 32 rows of each image. -/
def xblk (c : Dev nD) (t : Fin cfg0.N) : Vec F S2x32x256x128 .f32 :=
  ((cfg0.win 0).blk t).view.read (Elt F) (W c (Pipeline.arrRef spec0 0))

/-- The sums of `x` over the blocks up to `n`. -/
def sums (c : Dev nD) : ℕ → Vec F S2x128 .f32
  | 0 => k0_pay2 (xblk W c t0_0)
  | n + 1 => if h : n + 1 < cfg0.N then k0_pay4 (xblk W c ⟨n + 1, h⟩) (sums c n) else sums c n

/-- The sums of the squares over the blocks up to `n`. -/
def sqs (c : Dev nD) : ℕ → Vec F S2x128 .f32
  | 0 => k0_pay3 (xblk W c t0_0)
  | n + 1 => if h : n + 1 < cfg0.N then k0_pay5 (xblk W c ⟨n + 1, h⟩) (sqs c n) else sqs c n

theorem sums_next (c : Dev nD) (t : Fin cfg0.N) (h : t.val ≠ 0) : sums W c t.val = k0_pay4 (xblk W c t) (sums W c (t.val - 1)) := by
  obtain ⟨n, hn⟩ := t
  cases n with
  | zero => exact absurd rfl h
  | succ n => exact dif_pos hn

theorem sqs_next (c : Dev nD) (t : Fin cfg0.N) (h : t.val ≠ 0) : sqs W c t.val = k0_pay5 (xblk W c t) (sqs W c (t.val - 1)) := by
  obtain ⟨n, hn⟩ := t
  cases n with
  | zero => exact absurd rfl h
  | succ n => exact dif_pos hn

/-! ## The proof data -/

/-- What the first call leaves at each block; the device owes its neighbours throughout. -/
def dat (c : Dev nD) : Dat τ (Elt F) Unit ℕ UU ℕ cfg0 c where
  A w := W c (Pipeline.arrRef spec0 w)
  after w t := match w with
    | ⟨0, _⟩ => xblk W c t
    | ⟨1, _⟩ => sums W c t.val
    | ⟨2, _⟩ => sqs W c t.val
  Φ _ := Pipeline.scopedRest spec0 c
  q _ := fullShare
  owed _ := O₀ c

theorem A_eq (c : Dev nD) (w : Fin cfg0.W) : (dat W c).A w = W c (Pipeline.arrRef spec0 w) := by dsimp only [dat]
theorem after0 (c : Dev nD) (t : Fin cfg0.N) : (dat W c).after 0 t = xblk W c t := by dsimp only [dat]
theorem after1 (c : Dev nD) (t : Fin cfg0.N) : (dat W c).after 1 t = sums W c t.val := by dsimp only [dat]
theorem after2 (c : Dev nD) (t : Fin cfg0.N) : (dat W c).after 2 t = sqs W c t.val := by dsimp only [dat]

theorem live1 : ∀ t : Fin cfg0.N, cfg0.idle 1 (grid0.coords t) = false := by decide +kernel
theorem live2 : ∀ t : Fin cfg0.N, cfg0.idle 2 (grid0.coords t) = false := by decide +kernel

/-- An accumulator holds nothing yet before the first block and after the last. -/
def freshTab : ℕ → Bool
  | 0 => true
  | n + 1 => (0x80 : ℕ).testBit n
theorem freshTab1_step : ∀ t : Fin cfg0.N,
    freshTab (t.val + 1) = ((cfg0.win 1).flush t || (cfg0.idle 1 (cfg0.grid.coords t) && freshTab t.val)) := by decide +kernel
theorem freshTab2_step : ∀ t : Fin cfg0.N,
    freshTab (t.val + 1) = ((cfg0.win 2).flush t || (cfg0.idle 2 (cfg0.grid.coords t) && freshTab t.val)) := by decide +kernel
theorem freshTab_next : ∀ t : Fin cfg0.N, t.val ≠ 0 → freshTab t.val = false := by decide +kernel
theorem notFresh1 (t : Fin cfg0.N) (h : t.val ≠ 0) : cfg0.fresh 1 t.val = false :=
  (Pipeline.Cfg.fresh_tab cfg0 1 freshTab rfl freshTab1_step t.val (Nat.le_of_lt t.isLt)).trans (freshTab_next t h)
theorem notFresh2 (t : Fin cfg0.N) (h : t.val ≠ 0) : cfg0.fresh 2 t.val = false :=
  (Pipeline.Cfg.fresh_tab cfg0 2 freshTab rfl freshTab2_step t.val (Nat.le_of_lt t.isLt)).trans (freshTab_next t h)

theorem before0 (c : Dev nD) (t : Fin cfg0.N) (d) : (dat W c).before 0 t d = xblk W c t :=
  ((dat W c).before_in_eq_fetched 0 rfl (fun _ => rfl) (fun _ _ _ => rfl) (fun t => by rw [after0]; unfold Dat.blockOf xblk; rw [A_eq]; try rfl) t d).trans
    (by unfold Dat.fetched Dat.blockOf xblk; rw [A_eq]; try rfl)

theorem before1 (c : Dev nD) (t : Fin cfg0.N) (h : t.val ≠ 0) (d) : (dat W c).before 1 t d = sums W c (t.val - 1) := by
  rw [Dat.before_out_traj _ 1 rfl (fun _ _ => rfl) (fun t _ hi _ => absurd ((live1 t).symm.trans hi) Bool.false_ne_true) t.val t rfl d,
    if_neg (by rw [notFresh1 t h]; exact Bool.false_ne_true)]
  dsimp only [dat]

theorem before2 (c : Dev nD) (t : Fin cfg0.N) (h : t.val ≠ 0) (d) : (dat W c).before 2 t d = sqs W c (t.val - 1) := by
  rw [Dat.before_out_traj _ 2 rfl (fun _ _ => rfl) (fun t _ hi _ => absurd ((live2 t).symm.trans hi) Bool.false_ne_true) t.val t rfl d,
    if_neg (by rw [notFresh2 t h]; exact Bool.false_ne_true)]
  dsimp only [dat]

/-! ## The body at a block -/

theorem first_iff (t : Fin cfg0.N) : k0_cond1 (grid0.coords t) = 1#1 ↔ t.val = 0 := by
  have ht : t.val < 8 := Nat.lt_of_lt_of_eq t.isLt N_0
  have e0 : (grid0.coords t 0).val = t.val / 1 % 8 := Pipeline.Grid.coords_val t 0 (by decide) rfl
  simp only [k0_cond1, e0]
  word_cmp
theorem next_iff (t : Fin cfg0.N) : k0_cond2 (grid0.coords t) = 1#1 ↔ t.val ≠ 0 := by
  have ht : t.val < 8 := Nat.lt_of_lt_of_eq t.isLt N_0
  have e0 : (grid0.coords t 0).val = t.val / 1 % 8 := Pipeline.Grid.coords_val t 0 (by decide) rfl
  simp only [k0_cond2, e0]
  word_cmp

/-- What the body at block `t` starts from. -/
def bodyPre (c : Dev nD) (t : Fin cfg0.N) : sProp 𝕄 :=
  iprop((dat W c).Φ t.castSucc ∗ (dat W c).owesAt () t.castSucc
    ∗ (∃ d, owns (c : Thread nD τ) (st0_0 t) fullShare ((dat W c).before 0 t d))
    ∗ (∃ d, owns (c : Thread nD τ) (st0_1 t) fullShare ((dat W c).before 1 t d))
    ∗ (∃ d, owns (c : Thread nD τ) (st0_2 t) fullShare ((dat W c).before 2 t d)))

/-- What it ends with. -/
def bodyPost (c : Dev nD) (t : Fin cfg0.N) : sProp 𝕄 :=
  iprop((dat W c).Φ t.succ ∗ (dat W c).owesAt () t.succ ∗ (dat W c).leavesExact 0 t ∗ (dat W c).leavesExact 1 t ∗ (dat W c).leavesExact 2 t)

set_option maxHeartbeats 800000 in
theorem body_sound (c : Dev nD) (t : Fin cfg0.N) :
    bodyPre W c t ⊢ wp frame (wpE (defs₀ (F := F)) 𝒱₀ (c : Thread nD τ) none) Set.univ (bodyAt0 t) (fun _ => bodyPost W c t) := by
  unfold bodyPre bodyPost bodyAt0
  simp only [before0]
  rw [show (dat W c).Φ t.succ = (dat W c).Φ t.castSucc from rfl, show (dat W c).owesAt () t.succ = (dat W c).owesAt () t.castSucc from rfl,
    show (dat W c).leavesExact 0 t = owns (c : Thread nD τ) (st0_0 t) fullShare ((dat W c).after 0 t) from rfl,
    show (dat W c).leavesExact 1 t = owns (c : Thread nD τ) (st0_1 t) fullShare ((dat W c).after 1 t) from by
      unfold Dat.leavesExact; rw [live1 t],
    show (dat W c).leavesExact 2 t = owns (c : Thread nD τ) (st0_2 t) fullShare ((dat W c).after 2 t) from by
      unfold Dat.leavesExact; rw [live2 t], after0, after1, after2]
  by_cases h0 : t.val = 0
  · have e : t = t0_0 := Fin.ext h0
    rw [show sums W c t.val = k0_pay2 (xblk W c t) from by subst e; rfl, show sqs W c t.val = k0_pay3 (xblk W c t) from by subst e; rfl]
    iintro ⟨HΦ, Ho, ⟨%d0, H0⟩, ⟨%d1, H1⟩, ⟨%d2, H2⟩⟩
    iapply (run_first c (grid0.coords t) _ _ _ _ _ _ ((first_iff t).mpr h0) (fun h => (next_iff t).mp h h0) (xblk W c t) _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [sums_next W c t h0, sqs_next W c t h0]
    simp only [before1 W c t h0, before2 W c t h0]
    iintro ⟨HΦ, Ho, ⟨%d0, H0⟩, ⟨%d1, H1⟩, ⟨%d2, H2⟩⟩
    iapply (run_next c (grid0.coords t) _ _ _ _ _ _ (fun h => h0 ((first_iff t).mp h)) ((next_iff t).mpr h0) (xblk W c t) _ _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

theorem defs_row (t : Fin cfg0.N) : defs₀ (F := F) .tc cfg0.body (cfg0.bodyArgs t (cfg0.slots t)) = bodyAt0 t := by
  unfold defs₀; rw [Defs.onTc_tc]

theorem body (c : Dev nD) : BodyObligation (dat W c) (defs₀ (F := F)) 𝒱₀ () Set.univ := fun t => by
  rw [bigSep_W0, bigSep_W0, defs_row]
  exact triple_restated (body_sound W c t) rfl .rfl fun _ => .rfl

end Cert.KernelIdeal.Stats
-- ==== Proof.Talk.Slots.lean ====
/- What the exchange's buffers hold: the received sums as one buffer cut in three slots, and what each landing leaves. -/
module

public import proofs.«01_k».proof.Proof.Talk.Steps
public import Idealize.ShloMosaic.Lib.Pointwise
public import Idealize.ShloMosaic.Lib.VecWindow

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ UU ℕ

variable (W : Vals F)

/-! ## Whole buffers -/

/-- A whole buffer on device `c`. -/
abbrev pt (c : Dev nD) (b : Ref sig .tc) (q : PosShare TreeShare) (f : b.ty.Contents (Elt F)) : sProp 𝕄 :=
  (Memref.whole b).view.loc (c : Thread nD τ) ↦{q} f

/-- A whole buffer's contents, restated: what it reads is what it holds. -/
theorem restate (c : Dev nD) (b : Ref sig .tc) (q : PosShare TreeShare) (f g : b.ty.Contents (Elt F))
    (h : (Memref.whole b).view.read (Elt F) f = (Memref.whole b).view.read (Elt F) g) :
    pt c b q f ⊢ mpts (Memref.whole b) c q g := by
  have hg : f = g := by
    funext i
    have := congrFun h i
    exact this
  subst hg
  refine Entails.of_eq ?_
  show (_ : sProp 𝕄) = ((Memref.whole b).view.loc (c : Thread nD τ) ↦[(View.whole b).set]{q} f)
  rw [View.set_whole]

theorem unstate (c : Dev nD) (b : Ref sig .tc) (q : PosShare TreeShare) (f : b.ty.Contents (Elt F)) :
    mpts (Memref.whole b) c q f ⊢ pt c b q f := by
  refine Entails.of_eq ?_
  show ((Memref.whole b).view.loc (c : Thread nD τ) ↦[(View.whole b).set]{q} f : sProp 𝕄) = _
  rw [View.set_whole]

/-- A copy over the whole of a view leaves what it carried, read through the view. -/
theorem landed {sp : Space} {s : Shape} {e : EltTy} (M : Memref sig .tc sp s e) (c : Dev nD) (q : PosShare TreeShare)
    (fd g : Buf (Elt F) (M.view.loc (c : Thread nD τ))) (w : s.Idx → Elt F e) (h : w = M.view.read (Elt F) g) :
    mpts M c q (M.view.write (Elt F) fd w Finset.univ) ⊢ mpts M c q g := by
  refine Entails.of_eq (pointsTo_congr fun i hi => ?_)
  rw [h]
  obtain ⟨y, -, rfl⟩ := Finset.mem_map.mp hi
  rw [View.write_emb_of_mem _ _ (Finset.mem_univ y), View.read_apply, cast_cast, cast_eq]

/-! ## The slots -/

theorem slot0_set : slot0.view.set = (Rect.unit (s := S3x2x2x128) ![0, 0, 0, 0] S1x2x2x128.size inb_S3x2x2x128_S1x2x2x128_0_0_0_0).set :=
  (View.set_reshape _ _).trans (View.set_slice_whole _ _)
theorem slot1_set : slot1.view.set = (Rect.unit (s := S3x2x2x128) ![1, 0, 0, 0] S1x2x2x128.size inb_S3x2x2x128_S1x2x2x128_1_0_0_0).set :=
  (View.set_reshape _ _).trans (View.set_slice_whole _ _)
theorem slot2_set : slot2.view.set = (Rect.unit (s := S3x2x2x128) ![2, 0, 0, 0] S1x2x2x128.size inb_S3x2x2x128_S1x2x2x128_2_0_0_0).set :=
  (View.set_reshape _ _).trans (View.set_slice_whole _ _)

theorem slot01 : Disjoint slot0.view.set slot1.view.set := by
  rw [slot0_set, slot1_set]; exact Rect.unit_disjoint 0 (Or.inl (by decide))
theorem slot2_rest : Disjoint (slot0.view.set ∪ slot1.view.set) slot2.view.set := by
  rw [slot0_set, slot1_set, slot2_set, Finset.disjoint_union_left]
  exact ⟨Rect.unit_disjoint 0 (Or.inl (by decide)), Rect.unit_disjoint 0 (Or.inl (by decide))⟩

theorem slots_univ : (slot0.view.set ∪ slot1.view.set) ∪ slot2.view.set = Finset.univ := by
  rw [slot0_set, slot1_set, slot2_set]
  refine Finset.eq_univ_iff_forall.mpr fun i => ?_
  have h0 : (i 0).val < 3 := (i 0).isLt
  have h1 : (i 1).val < 2 := (i 1).isLt
  have h2 : (i 2).val < 2 := (i 2).isLt
  have h3 : (i 3).val < 128 := (i 3).isLt
  rw [Finset.mem_union, Finset.mem_union, Rect.mem_set_unit, Rect.mem_set_unit, Rect.mem_set_unit]
  have hk : (i 0).val = 0 ∨ (i 0).val = 1 ∨ (i 0).val = 2 := by omega
  rcases hk with hk | hk | hk
  · refine Or.inl (Or.inl fun a => ?_)
    match a with
    | 0 => exact ⟨Nat.zero_le _, by rw [hk]; decide⟩
    | 1 => exact ⟨Nat.zero_le _, h1⟩
    | 2 => exact ⟨Nat.zero_le _, h2⟩
    | 3 => exact ⟨Nat.zero_le _, h3⟩
  · refine Or.inl (Or.inr fun a => ?_)
    match a with
    | 0 => exact ⟨by rw [hk]; decide, by rw [hk]; decide⟩
    | 1 => exact ⟨Nat.zero_le _, h1⟩
    | 2 => exact ⟨Nat.zero_le _, h2⟩
    | 3 => exact ⟨Nat.zero_le _, h3⟩
  · refine Or.inr fun a => ?_
    match a with
    | 0 => exact ⟨by rw [hk]; decide, by rw [hk]; decide⟩
    | 1 => exact ⟨Nat.zero_le _, h1⟩
    | 2 => exact ⟨Nat.zero_le _, h2⟩
    | 3 => exact ⟨Nat.zero_le _, h3⟩

/-- The buffer of received sums is its three slots. -/
theorem got_slots (c : Dev nD) (f : cc1_scratch7.ty.Contents (Elt F)) :
    pt c cc1_scratch7 fullShare f ⊣⊢ iprop((mpts slot0 c fullShare f ∗ mpts slot1 c fullShare f) ∗ mpts slot2 c fullShare f) := by
  have h : (pt c cc1_scratch7 fullShare f : sProp 𝕄)
      = ((Memref.whole cc1_scratch7).view.loc (c : Thread nD τ) ↦[(slot0.view.set ∪ slot1.view.set) ∪ slot2.view.set]{fullShare} f) := by
    rw [slots_univ]
  have h1 := pointsTo_union (ℓ := (Memref.whole cc1_scratch7).view.loc (c : Thread nD τ)) (q := fullShare) (f := f) (Ix := Unit) (Name := ℕ) (U := UU) (Lvl := ℕ) slot2_rest
  have h2 := pointsTo_union (ℓ := (Memref.whole cc1_scratch7).view.loc (c : Thread nD τ)) (q := fullShare) (f := f) (Ix := Unit) (Name := ℕ) (U := UU) (Lvl := ℕ) slot01
  constructor
  · rw [h]; exact h1.1.trans (sep_mono h2.1 .rfl)
  · rw [h]; exact (sep_mono h2.2 .rfl).trans h1.2

/-- What slot `k` reads of an array of four axes: its part at `k`. -/
theorem slot_read (k : Fin 3) (off : Fin 4 → ℕ) (hoff : off = ![k.val, 0, 0, 0]) (inb : ∀ a, off a + S1x2x2x128.size a ≤ S3x2x2x128.size a)
    (g : Vec F S3x2x2x128 .f32) (y0 y1 : Fin 2) (y2 : Fin 128) :
    ((gotM.slice (Rect.unit (s := S3x2x2x128) off S1x2x2x128.size inb) (fun _ => rfl)).squeeze S2x2x128 squeezes_S1x2x2x128_S2x2x128).view.read (Elt F) g (ix3 y0 y1 y2)
      = g (ix4 k y0 y1 y2) := by
  subst hoff
  rw [Memref.read_squeeze_slice gotM _ (fun _ => rfl) squeezes_S1x2x2x128_S2x2x128 squeezes_S1x2x2x128_S2x2x128.numel_eq]
  rw [shapeCast_apply (s := S1x2x2x128) (t := S2x2x128) _ _ (ix3 y0 y1 y2) (ix4 0 y0 y1 y2) (by simp [Shape.rowMajor_val_three, Shape.rowMajor_val_four])]
  refine congrArg g (funext fun a => Fin.ext ?_)
  match a with
  | 0 => show k.val + 1 * 0 = k.val; omega
  | 1 => show 0 + 1 * y0.val = y0.val; omega
  | 2 => show 0 + 1 * y1.val = y1.val; omega
  | 3 => show 0 + 1 * y2.val = y2.val; omega

/-- What a slot reads of the sums received is what its neighbour sent. -/
theorem got_read (k : Fin 3) (off : Fin 4 → ℕ) (hoff : off = ![k.val, 0, 0, 0]) (inb : ∀ a, off a + S1x2x2x128.size a ≤ S3x2x2x128.size a) (c : Dev nD) :
    statM.view.read (Elt F) (statC W c)
      = ((gotM.slice (Rect.unit (s := S3x2x2x128) off S1x2x2x128.size inb) (fun _ => rfl)).squeeze S2x2x128 squeezes_S1x2x2x128_S2x2x128).view.read (Elt F) (gotC W (nb k c)) := by
  funext y
  idx_vars y
  refine Eq.trans ?_ (slot_read k off hoff inb (gotC W (nb k c)) y0 y1 y2).symm
  show statC W c (ix3 y0 y1 y2) = statC W (nb k (nb k c)) (ix3 y0 y1 y2)
  rw [nb_nb]

/-! ## The sums sent and the statistics made of those received -/

/-- Two stores along the first of three axes, read back. -/
theorem two_stores3 {sp : Space} {et : EltTy} (v : View sig .tc sp S2x2x128 et) (f : v.ty.Contents (Elt F))
    (inb0 : ∀ a, (![0, 0, 0] : Fin 3 → ℕ) a + S1x2x128.size a ≤ S2x2x128.size a) (inb1 : ∀ a, (![1, 0, 0] : Fin 3 → ℕ) a + S1x2x128.size a ≤ S2x2x128.size a)
    (w0 w1 : Vec F S1x2x128 et) (y0 y1 : Fin 2) (y2 : Fin 128) :
    v.read (Elt F) (v.writes (Elt F) f [⟨Rect.unit (s := S2x2x128) ![1, 0, 0] S1x2x128.size inb1, w1⟩, ⟨Rect.unit (s := S2x2x128) ![0, 0, 0] S1x2x128.size inb0, w0⟩]) (ix3 y0 y1 y2)
      = if y0.val = 0 then w0 (ix3 0 y1 y2) else w1 (ix3 0 y1 y2) := by
  have hy : y0 = 0 ∨ y0 = 1 := by omega
  rcases hy with rfl | rfl
  · rw [if_pos (show (0 : Fin 2).val = 0 from rfl), View.read_writes_cons_unit_of_not_mem v f inb1 w1 _ (ix3 0 y1 y2) rfl 0 (Or.inl Nat.one_pos)]
    exact View.read_writes_cons_unit_of_mem v f inb0 w0 [] _ (ix3 0 y1 y2) rfl fun a => by
      match a with
      | 0 => rfl
      | 1 => exact (Nat.zero_add _).symm
      | 2 => exact (Nat.zero_add _).symm
  · rw [if_neg (show ¬ (1 : Fin 2).val = 0 from Nat.one_ne_zero)]
    exact View.read_writes_cons_unit_of_mem v f inb1 w1 _ _ (ix3 0 y1 y2) rfl fun a => by
      match a with
      | 0 => rfl
      | 1 => exact (Nat.zero_add _).symm
      | 2 => exact (Nat.zero_add _).symm

/-- Two stores along the first of four axes, read back. -/
theorem two_stores4 {sp : Space} {et : EltTy} (v : View sig .tc sp S2x2x1x128 et) (f : v.ty.Contents (Elt F))
    (inb0 : ∀ a, (![0, 0, 0, 0] : Fin 4 → ℕ) a + S1x2x1x128.size a ≤ S2x2x1x128.size a) (inb1 : ∀ a, (![1, 0, 0, 0] : Fin 4 → ℕ) a + S1x2x1x128.size a ≤ S2x2x1x128.size a)
    (w0 w1 : Vec F S1x2x1x128 et) (y0 y1 : Fin 2) (y2 : Fin 1) (y3 : Fin 128) :
    v.read (Elt F) (v.writes (Elt F) f [⟨Rect.unit (s := S2x2x1x128) ![1, 0, 0, 0] S1x2x1x128.size inb1, w1⟩, ⟨Rect.unit (s := S2x2x1x128) ![0, 0, 0, 0] S1x2x1x128.size inb0, w0⟩]) (ix4 y0 y1 y2 y3)
      = if y0.val = 0 then w0 (ix4 0 y1 y2 y3) else w1 (ix4 0 y1 y2 y3) := by
  have hy : y0 = 0 ∨ y0 = 1 := by omega
  rcases hy with rfl | rfl
  · rw [if_pos (show (0 : Fin 2).val = 0 from rfl), View.read_writes_cons_unit_of_not_mem v f inb1 w1 _ (ix4 0 y1 y2 y3) rfl 0 (Or.inl Nat.one_pos)]
    exact View.read_writes_cons_unit_of_mem v f inb0 w0 [] _ (ix4 0 y1 y2 y3) rfl fun a => by
      match a with
      | 0 => rfl
      | 1 => exact (Nat.zero_add _).symm
      | 2 => exact (Nat.zero_add _).symm
      | 3 => exact (Nat.zero_add _).symm
  · rw [if_neg (show ¬ (1 : Fin 2).val = 0 from Nat.one_ne_zero)]
    exact View.read_writes_cons_unit_of_mem v f inb1 w1 _ _ (ix4 0 y1 y2 y3) rfl fun a => by
      match a with
      | 0 => rfl
      | 1 => exact (Nat.zero_add _).symm
      | 2 => exact (Nat.zero_add _).symm
      | 3 => exact (Nat.zero_add _).symm

/-- The buffer of sums to send, as the two stores leave it. -/
theorem stat_stores (c : Dev nD) (f : cc1_scratch6.ty.Contents (Elt F))
    (inb0 : ∀ a, (![0, 0, 0] : Fin 3 → ℕ) a + S1x2x128.size a ≤ S2x2x128.size a) (inb1 : ∀ a, (![1, 0, 0] : Fin 3 → ℕ) a + S1x2x128.size a ≤ S2x2x128.size a)
    (p q : Vec F S2x128 .f32) (hp : p = W c main_v1_0) (hq : q = W c main_v1_1) :
    (Memref.whole cc1_scratch6).view.read (Elt F) ((Memref.whole cc1_scratch6).view.writes (Elt F) f
        [⟨Rect.unit (s := S2x2x128) ![1, 0, 0] S1x2x128.size inb1, k1_pay6 q⟩,
         ⟨Rect.unit (s := S2x2x128) ![0, 0, 0] S1x2x128.size inb0, k1_pay5 p⟩])
      = (Memref.whole cc1_scratch6).view.read (Elt F) (statC W c) := by
  subst hp hq
  funext y
  idx_vars y
  show _ = statC W c (ix3 y0 y1 y2)
  have h := two_stores3 (Memref.whole cc1_scratch6).view f inb0 inb1 (k1_pay5 (W c main_v1_0)) (k1_pay6 (W c main_v1_1)) y0 y1 y2
  refine h.trans ?_
  clear h
  unfold statC
  refine if_congr Iff.rfl ?_ ?_
  · pointwise [k1_pay5]
  · pointwise [k1_pay6]

/-- What a device makes of its own sums and those received: at 0 the mean, at 1 one over the root of the variance. -/
def statsOut (c : Dev nD) : Vec F S2x2x1x128 .f32 := fun i =>
  let g (k : Fin 3) (j : Fin 2) : Vec F S1x1x2x128 .f32 := fun x => gotC W c (ix4 k j (x 2) (x 3))
  let p : FVec F S2x128 .f32 := k1_pay7 (W c main_v1_0)
  if (i 0).val = 0 then k1_pay10 p (g 0 0) (g 1 0) (g 2 0) (ix4 0 (i 1) (i 2) (i 3))
  else k1_pay1 (k1_pay9 p (g 0 0) (g 1 0) (g 2 0) (W c main_v1_1) (g 0 1) (g 1 1) (g 2 1)) (ix4 0 (i 1) (i 2) (i 3))

/-- The two stores of the statistics leave them. -/
theorem out_stores (c : Dev nD) (f : cc1_stg2_0.ty.Contents (Elt F))
    (inb0 : ∀ a, (![0, 0, 0, 0] : Fin 4 → ℕ) a + S1x2x1x128.size a ≤ S2x2x1x128.size a) (inb1 : ∀ a, (![1, 0, 0, 0] : Fin 4 → ℕ) a + S1x2x1x128.size a ≤ S2x2x1x128.size a)
    (p q : Vec F S2x128 .f32) (a0 a1 a2 b0 b1 b2 : Vec F S1x1x2x128 .f32)
    (hp : p = W c main_v1_0) (hq : q = W c main_v1_1)
    (h0 : ∀ x, a0 x = gotC W c (ix4 0 0 (x 2) (x 3))) (h1 : ∀ x, a1 x = gotC W c (ix4 1 0 (x 2) (x 3))) (h2 : ∀ x, a2 x = gotC W c (ix4 2 0 (x 2) (x 3)))
    (g0 : ∀ x, b0 x = gotC W c (ix4 0 1 (x 2) (x 3))) (g1 : ∀ x, b1 x = gotC W c (ix4 1 1 (x 2) (x 3))) (g2 : ∀ x, b2 x = gotC W c (ix4 2 1 (x 2) (x 3))) :
    (Memref.whole cc1_stg2_0).view.read (Elt F) ((Memref.whole cc1_stg2_0).view.writes (Elt F) f
        [⟨Rect.unit (s := S2x2x1x128) ![1, 0, 0, 0] S1x2x1x128.size inb1, k1_pay1 (k1_pay9 (k1_pay7 p) a0 a1 a2 q b0 b1 b2)⟩,
         ⟨Rect.unit (s := S2x2x1x128) ![0, 0, 0, 0] S1x2x1x128.size inb0, k1_pay10 (k1_pay7 p) a0 a1 a2⟩])
      = (Memref.whole cc1_stg2_0).view.read (Elt F) (statsOut W c) := by
  subst hp hq
  obtain rfl : a0 = _ := funext h0
  obtain rfl : a1 = _ := funext h1
  obtain rfl : a2 = _ := funext h2
  obtain rfl : b0 = _ := funext g0
  obtain rfl : b1 = _ := funext g1
  obtain rfl : b2 = _ := funext g2
  funext y
  idx_vars y
  show _ = statsOut W c (ix4 y0 y1 y2 y3)
  have h := two_stores4 (Memref.whole cc1_stg2_0).view f inb0 inb1
    (k1_pay10 (k1_pay7 (W c main_v1_0)) (fun x => gotC W c (ix4 0 0 (x 2) (x 3))) (fun x => gotC W c (ix4 1 0 (x 2) (x 3))) (fun x => gotC W c (ix4 2 0 (x 2) (x 3))))
    (k1_pay1 (k1_pay9 (k1_pay7 (W c main_v1_0)) (fun x => gotC W c (ix4 0 0 (x 2) (x 3))) (fun x => gotC W c (ix4 1 0 (x 2) (x 3))) (fun x => gotC W c (ix4 2 0 (x 2) (x 3)))
      (W c main_v1_1) (fun x => gotC W c (ix4 0 1 (x 2) (x 3))) (fun x => gotC W c (ix4 1 1 (x 2) (x 3))) (fun x => gotC W c (ix4 2 1 (x 2) (x 3))))) y0 y1 y2 y3
  exact h

end Cert.KernelIdeal.Talk
-- ==== Proof.Talk.Run.lean ====
module

public import proofs.«01_k».proof.Proof.Talk.Slots
public import proofs.«01_k».proof.Proof.Gen.KernelIdeal.Points
public import Idealize.ShloMosaic.Lib.Exec

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (W : Vals F)

/-- The exchange's body on its own buffers. -/
abbrev talkProg : Prog (TpuEff nD τ sig (Elt F) Λ₀ .tc) PUnit :=
  cc1__exchange_body (Memref.whole main_arg0) (Memref.isWhole_whole _) (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_stg4_0) (Memref.isWhole_whole _) (Memref.whole cc1_stg5_0) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) cc1_scratch8 cc1_scratch9 cc1_scratch10 cc1_scoped0

theorem talkProg_eq (t : Fin cfg1.N) : bodyAt1 (F := F) t = talkProg := by
  have h : t = t1_0 := fin_N1 t
  subst h; rfl

/-- Waiting for the row copy is allowed at entry. -/
theorem mayWait_local0 (c : Dev nD) : (levAts L lv : sProp 𝕄) ⊢ MayWait (c : Thread nD τ) (.dma (10 : DmaSem sig)) () (owed 12 c) :=
  mayWait c _ 12 (by decide)

/-- Waiting for the column copy is allowed at entry. -/
theorem mayWait_local1 (c : Dev nD) : (levAts L lv : sProp 𝕄) ⊢ MayWait (c : Thread nD τ) (.dma (11 : DmaSem sig)) () (owed 12 c) :=
  mayWait c _ 12 (by decide)

/-- Waiting for the corner copy is allowed at entry. -/
theorem mayWait_local2 (c : Dev nD) : (levAts L lv : sProp 𝕄) ⊢ MayWait (c : Thread nD τ) (.dma (12 : DmaSem sig)) () (owed 12 c) :=
  mayWait c _ 12 (by decide)

/-- The names of the cells device `c` touches: its own, its neighbours' signals, and where its copies land. -/
def invs (κ : GSem nD τ sig → ℕ) (c : Dev nD) : sProp 𝕄 :=
  iprop((cellInv ER (rd W) (κ (barCell c)) (barCell c) ∗ cellInv ER (rd W) (κ (doneCell c)) (doneCell c))
    ∗ bigSep Finset.univ (fun d : Fin 3 => cellInv ER (rd W) (κ (barCell (nb d c))) (barCell (nb d c)))
    ∗ bigSep Finset.univ (fun d : Fin 3 => cellInv ER (rd W) (κ (doneCell (nb d c))) (doneCell (nb d c)))
    ∗ bigSep Finset.univ (fun k : Fin 6 => cellInv ER (rd W) (κ (sendCell k c)) (sendCell k c))
    ∗ bigSep Finset.univ (fun k : Fin 6 => cellInv ER (rd W) (κ (recvCell k c)) (recvCell k c))
    ∗ bigSep Finset.univ (fun k : Fin 6 => cellInv ER (rd W) (κ (recvCell k (nb (dir k) c))) (recvCell k (nb (dir k) c))))

/-- What device `c` pays its neighbours with. -/
def toks (c : Dev nD) : sProp 𝕄 :=
  iprop(bigSep Finset.univ (fun d : Fin 3 => dutyTok ER (barCell (nb d c)) 0 d)
    ∗ bigSep Finset.univ (fun d : Fin 3 => dutyTok ER (doneCell (nb d c)) 0 d)
    ∗ bigSep Finset.univ (fun k : Fin 6 => dutyTok ER (sendCell k c) 0 0)
    ∗ bigSep Finset.univ (fun k : Fin 6 => dutyTok ER (recvCell k (nb (dir k) c)) 0 0))

/-- What device `c` waits with. -/
def creds (c : Dev nD) : sProp 𝕄 :=
  iprop(cred (tallyAt (barCell c) () 3) ∗ cred (tallyAt (doneCell c) () 3)
    ∗ bigSep Finset.univ (fun k : Fin 6 => cred (tallyAt (recvCell k c) () (cr k))))

/-- What device `c` holds of the exchange once its semaphores are ready. -/
def opened (κ : GSem nD τ sig → ℕ) (c : Dev nD) : sProp 𝕄 :=
  iprop(invs W κ c
    ∗ (atPos ER (barCell c) 0 ∅ 0 ∗ atPos ER (doneCell c) 0 ∅ 0
      ∗ bigSep Finset.univ (fun k : Fin 6 => atPos ER (sendCell k c) 0 ∅ 0) ∗ bigSep Finset.univ (fun k : Fin 6 => atPos ER (recvCell k c) 0 ∅ 0))
    ∗ (reached ER (doneCell c) 0 ∗ bigSep Finset.univ (fun d : Fin 3 => reached ER (barCell (nb d c)) 0)
      ∗ bigSep Finset.univ (fun k : Fin 6 => reached ER (sendCell k c) 0) ∗ bigSep Finset.univ (fun k : Fin 6 => reached ER (recvCell k c) 0))
    ∗ toks c ∗ creds c)

/-- The semaphores of the three local copies, at rest. -/
def locals (c : Dev nD) : sProp 𝕄 :=
  iprop(semVal ((c : Thread nD τ), .dma (10 : DmaSem sig)) 0 ∗ semVal ((c : Thread nD τ), .dma (11 : DmaSem sig)) 0 ∗ semVal ((c : Thread nD τ), .dma (12 : DmaSem sig)) 0)

/-- The exchange's scratch buffers, whatever they hold. -/
def scratch (c : Dev nD) : sProp 𝕄 :=
  iprop((∃ f, pt (F := F) c cc1_scratch0 fullShare f) ∗ (∃ f, pt (F := F) c cc1_scratch1 fullShare f) ∗ (∃ f, pt (F := F) c cc1_scratch2 fullShare f)
    ∗ (∃ f, pt (F := F) c cc1_scratch3 fullShare f) ∗ (∃ f, pt (F := F) c cc1_scratch4 fullShare f) ∗ (∃ f, pt (F := F) c cc1_scratch5 fullShare f)
    ∗ (∃ f, pt (F := F) c cc1_scratch6 fullShare f) ∗ (∃ f, pt (F := F) c cc1_scratch7 fullShare f))

/-- What the exchange's body starts from on device `c`. -/
def talkPre (κ : GSem nD τ sig → ℕ) (c : Dev nD) : sProp 𝕄 :=
  iprop(opened W κ c ∗ levAts L lv ∗ locals c ∗ pt c main_arg0 fullShare (W c main_arg0) ∗ scratch (F := F) c
    ∗ (pt c cc1_stg0_0 fullShare (W c main_v1_0) ∗ pt c cc1_stg1_0 fullShare (W c main_v1_1))
    ∗ ((∃ f, pt (F := F) c cc1_stg2_0 fullShare f) ∗ (∃ f, pt (F := F) c cc1_stg3_0 fullShare f)
      ∗ (∃ f, pt (F := F) c cc1_stg4_0 fullShare f) ∗ (∃ f, pt (F := F) c cc1_stg5_0 fullShare f))
    ∗ ow c (owed 12 c))

/-- What it ends with: every semaphore at rest, nothing owed, the statistics and the neighbours' strips in its results. -/
def talkPost (c : Dev nD) : sProp 𝕄 :=
  iprop(semVal (barCell c) 0 ∗ semVal (doneCell c) 0 ∗ bigSep Finset.univ (fun k : Fin 6 => semVal (sendCell k c) 0) ∗ bigSep Finset.univ (fun k : Fin 6 => semVal (recvCell k c) 0)
    ∗ locals (F := F) c ∗ pt c main_arg0 fullShare (W c main_arg0) ∗ scratch (F := F) c
    ∗ (pt c cc1_stg0_0 fullShare (W c main_v1_0) ∗ pt c cc1_stg1_0 fullShare (W c main_v1_1))
    ∗ (pt c cc1_stg2_0 fullShare (statsOut W c) ∗ pt c cc1_stg3_0 fullShare (rowC W (nb 0 c))
      ∗ pt c cc1_stg4_0 fullShare (colC W (nb 1 c)) ∗ pt c cc1_stg5_0 fullShare (cornC W (nb 2 c)))
    ∗ ow c 0)

/-- A signal in direction 0 hands over the buffers that copies from there land in. -/
theorem bar_give0 (c : Dev nD) (f : Buf (Elt F) (hrowM.view.loc (c : Thread nD τ))) (g : Buf (Elt F) (slot0.view.loc (c : Thread nD τ))) :
    iprop(mpts hrowM c fullShare f ∗ mpts slot0 c fullShare g ∗ reached ER (recvCell 0 c) 0 ∗ reached ER (recvCell 3 c) 0 ∗ reached ER (doneCell c) 0)
      ⊢ (rd W).payload (barCell (nb 0 c)) 0 0 := by
  rw [payload_bar]; unfold barPay; rw [nb_nb]
  show _ ⊢ iprop((∃ f, mpts hrowM c fullShare f) ∗ (∃ f, mpts slot0 c fullShare f) ∗ reached ER (recvCell 0 c) 0 ∗ reached ER (recvCell 3 c) 0 ∗ reached ER (doneCell c) 0)
  iintro ⟨Hf, Hg, H⟩
  isplitl [Hf]; · iexists f; iexact Hf
  isplitl [Hg]; · iexists g; iexact Hg
  iexact H

/-- The same in direction 1. -/
theorem bar_give1 (c : Dev nD) (f : Buf (Elt F) (hcolM.view.loc (c : Thread nD τ))) (g : Buf (Elt F) (slot1.view.loc (c : Thread nD τ))) :
    iprop(mpts hcolM c fullShare f ∗ mpts slot1 c fullShare g ∗ reached ER (recvCell 1 c) 0 ∗ reached ER (recvCell 4 c) 0 ∗ reached ER (doneCell c) 0)
      ⊢ (rd W).payload (barCell (nb 1 c)) 0 1 := by
  rw [payload_bar]; unfold barPay; rw [nb_nb]
  show _ ⊢ iprop((∃ f, mpts hcolM c fullShare f) ∗ (∃ f, mpts slot1 c fullShare f) ∗ reached ER (recvCell 1 c) 0 ∗ reached ER (recvCell 4 c) 0 ∗ reached ER (doneCell c) 0)
  iintro ⟨Hf, Hg, H⟩
  isplitl [Hf]; · iexists f; iexact Hf
  isplitl [Hg]; · iexists g; iexact Hg
  iexact H

/-- The same in direction 2. -/
theorem bar_give2 (c : Dev nD) (f : Buf (Elt F) (hcornM.view.loc (c : Thread nD τ))) (g : Buf (Elt F) (slot2.view.loc (c : Thread nD τ))) :
    iprop(mpts hcornM c fullShare f ∗ mpts slot2 c fullShare g ∗ reached ER (recvCell 2 c) 0 ∗ reached ER (recvCell 5 c) 0 ∗ reached ER (doneCell c) 0)
      ⊢ (rd W).payload (barCell (nb 2 c)) 0 2 := by
  rw [payload_bar]; unfold barPay; rw [nb_nb]
  show _ ⊢ iprop((∃ f, mpts hcornM c fullShare f) ∗ (∃ f, mpts slot2 c fullShare f) ∗ reached ER (recvCell 2 c) 0 ∗ reached ER (recvCell 5 c) 0 ∗ reached ER (doneCell c) 0)
  iintro ⟨Hf, Hg, H⟩
  isplitl [Hf]; · iexists f; iexact Hf
  isplitl [Hg]; · iexists g; iexact Hg
  iexact H

/-- What the three neighbours hand over, opened. -/
theorem bar_take (c : Dev nD) :
    bigSep ((rd W).duties (barCell c) 0 \ ∅) (fun d => (rd W).payload (barCell c) 0 d)
      ⊢ iprop(((∃ f, mpts hrowM (nb 0 c) fullShare f) ∗ (∃ f, mpts slot0 (nb 0 c) fullShare f) ∗ reached ER (recvCell 0 (nb 0 c)) 0 ∗ reached ER (recvCell 3 (nb 0 c)) 0 ∗ reached ER (doneCell (nb 0 c)) 0)
        ∗ ((∃ f, mpts hcolM (nb 1 c) fullShare f) ∗ (∃ f, mpts slot1 (nb 1 c) fullShare f) ∗ reached ER (recvCell 1 (nb 1 c)) 0 ∗ reached ER (recvCell 4 (nb 1 c)) 0 ∗ reached ER (doneCell (nb 1 c)) 0)
        ∗ ((∃ f, mpts hcornM (nb 2 c) fullShare f) ∗ (∃ f, mpts slot2 (nb 2 c) fullShare f) ∗ reached ER (recvCell 2 (nb 2 c)) 0 ∗ reached ER (recvCell 5 (nb 2 c)) 0 ∗ reached ER (doneCell (nb 2 c)) 0)) := by
  rw [rest_bar]
  exact .rfl

/-- Equal assertions entail each other. -/
theorem eq_take {P Q : sProp 𝕄} (h : P = Q) : P ⊢ Q := h ▸ .rfl

/-- Going on after a program that has returned. -/
theorem ret_bind {α β : Type} (a : α) (f : α → Prog (TpuEff nD τ sig (Elt F) Λ₀ .tc) β) : (Prog.ret a).bind f = f a := rfl

/-- Running one program and then what it is followed by. -/
theorem step_bind (c : Dev nD) {α β : Type} (p : Prog (TpuEff nD τ sig (Elt F) Λ₀ .tc) α) (f : α → Prog (TpuEff nD τ sig (Elt F) Λ₀ .tc) β) {Q : β → sProp 𝕄} :
    wp frame (wpE (defs₀ (F := F)) 𝒱₀ (c : Thread nD τ) none) Set.univ p (fun a => wp frame (wpE (defs₀ (F := F)) 𝒱₀ (c : Thread nD τ) none) Set.univ (f a) Q)
      ⊢ wp frame (wpE (defs₀ (F := F)) 𝒱₀ (c : Thread nD τ) none) Set.univ (p.bind f) Q := by
  show _ ⊢ wp frame (wpE (defs₀ (F := F)) 𝒱₀ (c : Thread nD τ) none) Set.univ (p >>= f) Q
  rw [wp_bind]

/-- The last signal hands nothing over. -/
theorem done_give (c : Dev nD) (d : Fin 3) : iprop(emp) ⊢ (rd W).payload (doneCell c) 0 d := by
  rw [payload_done]

/-- A load of one pair of the sums received. -/
theorem got_load (f : Vec F S3x2x2x128 .f32) (a : Fin 3) (b : Fin 2) (off : Fin 4 → ℕ) (hoff : off = ![a.val, b.val, 0, 0]) (inb : ∀ i, off i + S1x1x2x128.size i ≤ S3x2x2x128.size i) (x : S1x1x2x128.Idx) :
    (Memref.whole cc1_scratch7).view.readAt (Elt F) (Rect.unit (s := S3x2x2x128) off S1x1x2x128.size inb).toLoadRect f x = f (ix4 a b (x 2) (x 3)) := by
  subst hoff
  refine congrArg f (funext fun i => Fin.ext ?_)
  have h0 : (x 0).val = 0 := by have := (x 0).isLt; simpa [S1x1x2x128] using this
  have h1 : (x 1).val = 0 := by have := (x 1).isLt; simpa [S1x1x2x128] using this
  match i with
  | 0 => show a.val + 1 * (x 0).val = a.val; omega
  | 1 => show b.val + 1 * (x 1).val = b.val; omega
  | 2 => show 0 + 1 * (x 2).val = (x 2).val; omega
  | 3 => show 0 + 1 * (x 3).val = (x 3).val; omega

/-- A program that has returned may first put its cells away. -/
theorem step_close (c : Dev nD) {α : Type} (a : α) {Q : α → sProp 𝕄} :
    (|={Set.univ}=> Q a) ⊢ wp frame (wpE (defs₀ (F := F)) 𝒱₀ (c : Thread nD τ) none) Set.univ (.ret a) Q := by
  rw [wp_ret]

/-- After the last payment nothing is owed. -/
theorem ow_zero (c : Dev nD) : (ow c (owed 0 c) : sProp 𝕄) ⊢ iprop(∃ S, owes (c : Thread nD τ) (0 : CellTallies nD τ sig Unit) S) := by
  unfold ow; exact .rfl

/-! Each device number the body computes is a neighbour's. -/

theorem dev1_eq (c : Dev nD) (h : k1_dev1 c < nD) : (⟨k1_dev1 c, h⟩ : Dev nD) = nb 0 c := Fin.ext (k1_dev1_eq c)
theorem dev2_eq (c : Dev nD) (h : k1_dev2 c < nD) : (⟨k1_dev2 c, h⟩ : Dev nD) = nb 1 c := Fin.ext (k1_dev2_eq c)
theorem dev3_eq (c : Dev nD) (h : k1_dev3 c < nD) : (⟨k1_dev3 c, h⟩ : Dev nD) = nb 2 c := Fin.ext (k1_dev3_eq c)
theorem dev4_eq (c : Dev nD) (h : k1_dev4 c < nD) : (⟨k1_dev4 c, h⟩ : Dev nD) = nb 0 c := Fin.ext (k1_dev4_eq c)
theorem dev5_eq (c : Dev nD) (h : k1_dev5 c < nD) : (⟨k1_dev5 c, h⟩ : Dev nD) = nb 1 c := Fin.ext (k1_dev5_eq c)
theorem dev6_eq (c : Dev nD) (h : k1_dev6 c < nD) : (⟨k1_dev6 c, h⟩ : Dev nD) = nb 2 c := Fin.ext (k1_dev6_eq c)
theorem dev7_eq (c : Dev nD) (h : k1_dev7 c < nD) : (⟨k1_dev7 c, h⟩ : Dev nD) = nb 0 c := Fin.ext (k1_dev7_eq c)
theorem dev8_eq (c : Dev nD) (h : k1_dev8 c < nD) : (⟨k1_dev8 c, h⟩ : Dev nD) = nb 1 c := Fin.ext (k1_dev8_eq c)
theorem dev9_eq (c : Dev nD) (h : k1_dev9 c < nD) : (⟨k1_dev9 c, h⟩ : Dev nD) = nb 2 c := Fin.ext (k1_dev9_eq c)
theorem dev10_eq (c : Dev nD) (h : k1_dev10 c < nD) : (⟨k1_dev10 c, h⟩ : Dev nD) = nb 0 c := Fin.ext (k1_dev10_eq c)
theorem dev11_eq (c : Dev nD) (h : k1_dev11 c < nD) : (⟨k1_dev11 c, h⟩ : Dev nD) = nb 1 c := Fin.ext (k1_dev11_eq c)
theorem dev12_eq (c : Dev nD) (h : k1_dev12 c < nD) : (⟨k1_dev12 c, h⟩ : Dev nD) = nb 2 c := Fin.ext (k1_dev12_eq c)

set_option maxRecDepth 16384
set_option maxHeartbeats 4000000 in
/-- The exchange's body on device `c`, from what the launch hands it to the strips and sums in its results. -/
theorem talkRun (κ : GSem nD τ sig → ℕ) (c : Dev nD) (Kt : PUnit → sProp 𝕄) :
    iprop(talkPre W κ c ∗ (talkPost W c -∗ Kt ⟨⟩))
      ⊢ wp frame (wpE (defs₀ (F := F)) 𝒱₀ (c : Thread nD τ) none) Set.univ talkProg Kt := by
  unfold talkPre talkPost opened invs toks creds locals scratch ow
  simp only [bigSep_W0, bigSep_W1]
  iintro ⟨⟨⟨⟨⟨#IB, #ID⟩, ⟨#IB0, #IB1, #IB2⟩, ⟨#ID0, #ID1, #ID2⟩, ⟨#IS0, #IS1, #IS2, #IS3, #IS4, #IS5⟩, ⟨#IR0, #IR1, #IR2, #IR3, #IR4, #IR5⟩, ⟨#IQ0, #IQ1, #IQ2, #IQ3, #IQ4, #IQ5⟩⟩,
      ⟨AB, AD, ⟨AS0, AS1, AS2, AS3, AS4, AS5⟩, ⟨AR0, AR1, AR2, AR3, AR4, AR5⟩⟩,
      ⟨#RD, ⟨#RB0, #RB1, #RB2⟩, ⟨#RS0, #RS1, #RS2, #RS3, #RS4, #RS5⟩, ⟨#RR0, #RR1, #RR2, #RR3, #RR4, #RR5⟩⟩,
      ⟨⟨TB0, TB1, TB2⟩, ⟨TD0, TD1, TD2⟩, ⟨TS0, TS1, TS2, TS3, TS4, TS5⟩, ⟨TQ0, TQ1, TQ2, TQ3, TQ4, TQ5⟩⟩,
      ⟨CB, CD, ⟨CR0, CR1, CR2, CR3, CR4, CR5⟩⟩⟩,
      #Hlev, ⟨Hs0, Hs1, Hs2⟩, Hx, ⟨⟨%f7, H7⟩, ⟨%f8, H8⟩, ⟨%f9, H9⟩, ⟨%f10, H10⟩, ⟨%f11, H11⟩, ⟨%f12, H12⟩, ⟨%f13, H13⟩, ⟨%f14, H14⟩⟩,
      ⟨Hp, Hq⟩, ⟨⟨%f3, H3⟩, ⟨%f4, H4⟩, ⟨%f5, H5⟩, ⟨%f6, H6⟩⟩, ⟨%S, HO⟩⟩, Hk⟩
  -- three shares of the argument, one for each strip
  ihave Hx' := (pointsTo_share (PosShare.mem_left_op_right fullShare)).1 $$ Hx
  icases Hx' with ⟨Hx0, Hx'⟩
  ihave Hx'' := (pointsTo_share (PosShare.mem_left_op_right fullShare.right)).1 $$ Hx'
  icases Hx'' with ⟨Hx1, Hx2⟩
  have hw0 := mayWait_local0 (F := F) c
  have hw1 := mayWait_local1 (F := F) c
  have hw2 := mayWait_local2 (F := F) c
  unfold talkProg
  rw [cc1__exchange_body_eq_skeleton]
  unfold cc1__exchange_body_skel
  rw [k1_part1_eq_skeleton]; unfold k1_part1_skel
  sl_exec
  -- what the strips and the sums to send hold now
  ihave H10 : mpts rowM c fullShare (rowC W c) $$ [H10]
  · iapply (restate c cc1_scratch3 fullShare _ (rowC W c) ?_) $$ H10
    refine (View.read_writes_full _ _ _ _ _).trans ?_
    refine congrArg k1_pay2 ((View.readAt_full _ _ _).trans (View.read_write_univ _ _))
  ihave H11 : mpts colM c fullShare (colC W c) $$ [H11]
  · iapply (restate c cc1_scratch4 fullShare _ (colC W c) ?_) $$ H11
    refine (View.read_writes_full _ _ _ _ _).trans ?_
    refine congrArg k1_pay3 ((View.readAt_full _ _ _).trans (View.read_write_univ _ _))
  ihave H12 : mpts cornM c fullShare (cornC W c) $$ [H12]
  · iapply (restate c cc1_scratch5 fullShare _ (cornC W c) ?_) $$ H12
    refine (View.read_writes_full _ _ _ _ _).trans ?_
    refine congrArg k1_pay4 ((View.readAt_full _ _ _).trans (View.read_write_univ _ _))
  ihave H13 : mpts statM c fullShare (statC W c) $$ [H13]
  · iapply (restate c cc1_scratch6 fullShare _ (statC W c) ?_) $$ H13
    exact stat_stores W c f13 _ _ _ _ (View.readAt_full _ _ _) (View.readAt_full _ _ _)
  ihave HO : ow c (owed 12 c) $$ [HO]
  · unfold ow; iexists _; iexact HO
  -- the landing buffers go to the neighbours
  ihave H14 := (got_slots c f14).1 $$ H14
  icases H14 with ⟨⟨G0, G1⟩, G2⟩
  ihave H4 := (restate c cc1_stg3_0 fullShare f4 f4 rfl) $$ H4
  ihave H5 := (restate c cc1_stg4_0 fullShare f5 f5 rfl) $$ H5
  ihave H6 := (restate c cc1_stg5_0 fullShare f6 f6 rfl) $$ H6
  iapply (step_signal W c (nb 0 c) _ (dev1_eq c _) barrier0 0 (κ (barCell (nb 0 c))) (owed 11 c)
    (by rw [duties_bar]; exact Finset.mem_univ _) (amount_bar W _ _)) $$ [HO TB0 H4 G0]
  · isplitr; · iexact IB0
    isplitr; · iexact RB0
    isplitl [HO]; · iexact HO
    isplitl [TB0]; · iexact TB0
    iapply (bar_give0 W c f4 f14)
    isplitl [H4]; · iexact H4
    isplitl [G0]; · iexact G0
    isplitr; · iexact RR0
    isplitr; · iexact RR3
    iexact RD
  iintro HO
  rw [wp_ret]; imodintro
  iapply (step_signal W c (nb 1 c) _ (dev2_eq c _) barrier0 1 (κ (barCell (nb 1 c))) (owed 10 c)
    (by rw [duties_bar]; exact Finset.mem_univ _) (amount_bar W _ _)) $$ [HO TB1 H5 G1]
  · isplitr; · iexact IB1
    isplitr; · iexact RB1
    isplitl [HO]; · iexact HO
    isplitl [TB1]; · iexact TB1
    iapply (bar_give1 W c f5 f14)
    isplitl [H5]; · iexact H5
    isplitl [G1]; · iexact G1
    isplitr; · iexact RR1
    isplitr; · iexact RR4
    iexact RD
  iintro HO
  iapply (step_signal W c (nb 2 c) _ (dev3_eq c _) barrier0 2 (κ (barCell (nb 2 c))) (owed 9 c)
    (by rw [duties_bar]; exact Finset.mem_univ _) (amount_bar W _ _)) $$ [HO TB2 H6 G2]
  · isplitr; · iexact IB2
    isplitr; · iexact RB2
    isplitl [HO]; · iexact HO
    isplitl [TB2]; · iexact TB2
    iapply (bar_give2 W c f6 f14)
    isplitl [H6]; · iexact H6
    isplitl [G2]; · iexact G2
    isplitr; · iexact RR2
    isplitr; · iexact RR5
    iexact RD
  iintro HO
  -- the wait for the three neighbours
  iapply (step_wait W c (.reg barrier0) 3 9 (κ (barCell c)) _ (wpE_semWait_eq 𝒱₀ (c : Thread nD τ) none Set.univ) (expect_bar W c) (by decide)) $$ [CB HO AB]
  · isplitr; · iexact IB
    isplitr; · iexact Hlev
    isplitl [CB]; · iexact CB
    isplitl [HO]; · iexact HO
    iexact AB
  iintro ⟨HO, AB, Hpay⟩
  ihave Hpay := (bar_take W c) $$ Hpay
  icases Hpay with ⟨⟨⟨%g0, N0⟩, ⟨%g3, N3⟩, #QR0, #QR3, #QD0⟩, ⟨⟨%g1, N1⟩, ⟨%g4, N4⟩, #QR1, #QR4, #QD1⟩, ⟨⟨%g2, N2⟩, ⟨%g5, N5⟩, #QR2, #QR5, #QD2⟩⟩
  iapply (step_ret c _)
  -- the six copies
  ihave H13 := (pointsTo_share (PosShare.mem_left_op_right fullShare)).1 $$ H13
  icases H13 with ⟨Z0, H13⟩
  ihave H13 := (pointsTo_share (PosShare.mem_left_op_right fullShare.right)).1 $$ H13
  icases H13 with ⟨Z1, Z2⟩
  iapply (step_copy W c (nb 0 c) _ (dev4_eq c _) 0 (κ (sendCell 0 c)) (κ (recvCell 0 (nb 0 c))) (owed 8 c) rowM hrowM fullShare (rowC W c) g0
    rfl .rfl (landed hrowM (nb 0 c) fullShare g0 (rowC W (nb 0 (nb 0 c))) _ (by rw [nb_nb]; rfl))) $$ [HO H10 N0 TS0 TQ0]
  · isplitr; · iexact IS0
    isplitr; · iexact IQ0
    isplitr; · iexact RS0
    isplitr; · iexact QR0
    isplitl [H10]; · iexact H10
    isplitl [N0]; · iexact N0
    isplitl [HO]; · iexact HO
    isplitl [TS0]; · iexact TS0
    iexact TQ0
  iintro ⟨CS0, HO⟩
  iapply (step_copy W c (nb 1 c) _ (dev5_eq c _) 1 (κ (sendCell 1 c)) (κ (recvCell 1 (nb 1 c))) (owed 7 c) colM hcolM fullShare (colC W c) g1
    rfl .rfl (landed hcolM (nb 1 c) fullShare g1 (colC W (nb 1 (nb 1 c))) _ (by rw [nb_nb]; rfl))) $$ [HO H11 N1 TS1 TQ1]
  · isplitr; · iexact IS1
    isplitr; · iexact IQ1
    isplitr; · iexact RS1
    isplitr; · iexact QR1
    isplitl [H11]; · iexact H11
    isplitl [N1]; · iexact N1
    isplitl [HO]; · iexact HO
    isplitl [TS1]; · iexact TS1
    iexact TQ1
  iintro ⟨CS1, HO⟩
  iapply (step_copy W c (nb 2 c) _ (dev6_eq c _) 2 (κ (sendCell 2 c)) (κ (recvCell 2 (nb 2 c))) (owed 6 c) cornM hcornM fullShare (cornC W c) g2
    rfl .rfl (landed hcornM (nb 2 c) fullShare g2 (cornC W (nb 2 (nb 2 c))) _ (by rw [nb_nb]; rfl))) $$ [HO H12 N2 TS2 TQ2]
  · isplitr; · iexact IS2
    isplitr; · iexact IQ2
    isplitr; · iexact RS2
    isplitr; · iexact QR2
    isplitl [H12]; · iexact H12
    isplitl [N2]; · iexact N2
    isplitl [HO]; · iexact HO
    isplitl [TS2]; · iexact TS2
    iexact TQ2
  iintro ⟨CS2, HO⟩
  iapply (step_copy W c (nb 0 c) _ (dev7_eq c _) 3 (κ (sendCell 3 c)) (κ (recvCell 3 (nb 0 c))) (owed 5 c) statM slot0 fullShare.left (statC W c) g3
    rfl .rfl (landed slot0 (nb 0 c) fullShare g3 (gotC W (nb 0 c)) _ (got_read W 0 _ rfl _ c))) $$ [HO Z0 N3 TS3 TQ3]
  · isplitr; · iexact IS3
    isplitr; · iexact IQ3
    isplitr; · iexact RS3
    isplitr; · iexact QR3
    isplitl [Z0]; · iexact Z0
    isplitl [N3]; · iexact N3
    isplitl [HO]; · iexact HO
    isplitl [TS3]; · iexact TS3
    iexact TQ3
  iintro ⟨CS3, HO⟩
  iapply (step_copy W c (nb 1 c) _ (dev8_eq c _) 4 (κ (sendCell 4 c)) (κ (recvCell 4 (nb 1 c))) (owed 4 c) statM slot1 fullShare.right.left (statC W c) g4
    rfl .rfl (landed slot1 (nb 1 c) fullShare g4 (gotC W (nb 1 c)) _ (got_read W 1 _ rfl _ c))) $$ [HO Z1 N4 TS4 TQ4]
  · isplitr; · iexact IS4
    isplitr; · iexact IQ4
    isplitr; · iexact RS4
    isplitr; · iexact QR4
    isplitl [Z1]; · iexact Z1
    isplitl [N4]; · iexact N4
    isplitl [HO]; · iexact HO
    isplitl [TS4]; · iexact TS4
    iexact TQ4
  iintro ⟨CS4, HO⟩
  iapply (step_copy W c (nb 2 c) _ (dev9_eq c _) 5 (κ (sendCell 5 c)) (κ (recvCell 5 (nb 2 c))) (owed 3 c) statM slot2 fullShare.right.right (statC W c) g5
    rfl .rfl (landed slot2 (nb 2 c) fullShare g5 (gotC W (nb 2 c)) _ (got_read W 2 _ rfl _ c))) $$ [HO Z2 N5 TS5 TQ5]
  · isplitr; · iexact IS5
    isplitr; · iexact IQ5
    isplitr; · iexact RS5
    isplitr; · iexact QR5
    isplitl [Z2]; · iexact Z2
    isplitl [N5]; · iexact N5
    isplitl [HO]; · iexact HO
    isplitl [TS5]; · iexact TS5
    iexact TQ5
  iintro ⟨CS5, HO⟩
  -- the twelve waits
  iapply (step_waitDma W c (sendS 0) (cr 0) 3 (κ (sendCell 0 c)) hrowM rowM rfl (expect_send W c 0) (by decide)) $$ [CS0 HO AS0]
  · isplitr; · iexact IS0
    isplitr; · iexact Hlev
    isplitl [CS0]; · iexact CS0
    isplitl [HO]; · iexact HO
    iexact AS0
  iintro ⟨HO, AS0, Z0⟩
  ihave Z0 := (show _ ⊢ mpts rowM c fullShare (rowC W c) from eq_take (rest_send W c 0)) $$ Z0
  iapply (step_waitDma W c (recvS 0) (cr 0) 3 (κ (recvCell 0 c)) rowM hrowM rfl (expect_recv W c 0) (by decide)) $$ [CR0 HO AR0]
  · isplitr; · iexact IR0
    isplitr; · iexact Hlev
    isplitl [CR0]; · iexact CR0
    isplitl [HO]; · iexact HO
    iexact AR0
  iintro ⟨HO, AR0, N0⟩
  ihave N0 := (show _ ⊢ mpts hrowM c fullShare (rowC W (nb 0 c)) from eq_take (rest_recv W c 0)) $$ N0
  iapply (step_waitDma W c (sendS 1) (cr 1) 3 (κ (sendCell 1 c)) hcolM colM rfl (expect_send W c 1) (by decide)) $$ [CS1 HO AS1]
  · isplitr; · iexact IS1
    isplitr; · iexact Hlev
    isplitl [CS1]; · iexact CS1
    isplitl [HO]; · iexact HO
    iexact AS1
  iintro ⟨HO, AS1, Z1⟩
  ihave Z1 := (show _ ⊢ mpts colM c fullShare (colC W c) from eq_take (rest_send W c 1)) $$ Z1
  iapply (step_waitDma W c (recvS 1) (cr 1) 3 (κ (recvCell 1 c)) colM hcolM rfl (expect_recv W c 1) (by decide)) $$ [CR1 HO AR1]
  · isplitr; · iexact IR1
    isplitr; · iexact Hlev
    isplitl [CR1]; · iexact CR1
    isplitl [HO]; · iexact HO
    iexact AR1
  iintro ⟨HO, AR1, N1⟩
  ihave N1 := (show _ ⊢ mpts hcolM c fullShare (colC W (nb 1 c)) from eq_take (rest_recv W c 1)) $$ N1
  iapply (step_waitDma W c (sendS 2) (cr 2) 3 (κ (sendCell 2 c)) hcornM cornM rfl (expect_send W c 2) (by decide)) $$ [CS2 HO AS2]
  · isplitr; · iexact IS2
    isplitr; · iexact Hlev
    isplitl [CS2]; · iexact CS2
    isplitl [HO]; · iexact HO
    iexact AS2
  iintro ⟨HO, AS2, Z2⟩
  ihave Z2 := (show _ ⊢ mpts cornM c fullShare (cornC W c) from eq_take (rest_send W c 2)) $$ Z2
  iapply (step_waitDma W c (recvS 2) (cr 2) 3 (κ (recvCell 2 c)) cornM hcornM rfl (expect_recv W c 2) (by decide)) $$ [CR2 HO AR2]
  · isplitr; · iexact IR2
    isplitr; · iexact Hlev
    isplitl [CR2]; · iexact CR2
    isplitl [HO]; · iexact HO
    iexact AR2
  iintro ⟨HO, AR2, N2⟩
  ihave N2 := (show _ ⊢ mpts hcornM c fullShare (cornC W (nb 2 c)) from eq_take (rest_recv W c 2)) $$ N2
  iapply (step_waitDma W c (sendS 3) (cr 3) 3 (κ (sendCell 3 c)) slot0 statM rfl (expect_send W c 3) (by decide)) $$ [CS3 HO AS3]
  · isplitr; · iexact IS3
    isplitr; · iexact Hlev
    isplitl [CS3]; · iexact CS3
    isplitl [HO]; · iexact HO
    iexact AS3
  iintro ⟨HO, AS3, Z3⟩
  ihave Z3 := (show _ ⊢ mpts statM c fullShare.left (statC W c) from eq_take (rest_send W c 3)) $$ Z3
  iapply (step_waitDma W c (recvS 3) (cr 3) 3 (κ (recvCell 3 c)) statM slot0 rfl (expect_recv W c 3) (by decide)) $$ [CR3 HO AR3]
  · isplitr; · iexact IR3
    isplitr; · iexact Hlev
    isplitl [CR3]; · iexact CR3
    isplitl [HO]; · iexact HO
    iexact AR3
  iintro ⟨HO, AR3, N3⟩
  ihave N3 := (show _ ⊢ mpts slot0 c fullShare (gotC W c) from eq_take (rest_recv W c 3)) $$ N3
  iapply (step_waitDma W c (sendS 4) (cr 4) 3 (κ (sendCell 4 c)) slot1 statM rfl (expect_send W c 4) (by decide)) $$ [CS4 HO AS4]
  · isplitr; · iexact IS4
    isplitr; · iexact Hlev
    isplitl [CS4]; · iexact CS4
    isplitl [HO]; · iexact HO
    iexact AS4
  iintro ⟨HO, AS4, Z4⟩
  ihave Z4 := (show _ ⊢ mpts statM c fullShare.right.left (statC W c) from eq_take (rest_send W c 4)) $$ Z4
  iapply (step_waitDma W c (recvS 4) (cr 4) 3 (κ (recvCell 4 c)) statM slot1 rfl (expect_recv W c 4) (by decide)) $$ [CR4 HO AR4]
  · isplitr; · iexact IR4
    isplitr; · iexact Hlev
    isplitl [CR4]; · iexact CR4
    isplitl [HO]; · iexact HO
    iexact AR4
  iintro ⟨HO, AR4, N4⟩
  ihave N4 := (show _ ⊢ mpts slot1 c fullShare (gotC W c) from eq_take (rest_recv W c 4)) $$ N4
  iapply (step_waitDma W c (sendS 5) (cr 5) 3 (κ (sendCell 5 c)) slot2 statM rfl (expect_send W c 5) (by decide)) $$ [CS5 HO AS5]
  · isplitr; · iexact IS5
    isplitr; · iexact Hlev
    isplitl [CS5]; · iexact CS5
    isplitl [HO]; · iexact HO
    iexact AS5
  iintro ⟨HO, AS5, Z5⟩
  ihave Z5 := (show _ ⊢ mpts statM c fullShare.right.right (statC W c) from eq_take (rest_send W c 5)) $$ Z5
  iapply (step_waitDma W c (recvS 5) (cr 5) 3 (κ (recvCell 5 c)) statM slot2 rfl (expect_recv W c 5) (by decide)) $$ [CR5 HO AR5]
  · isplitr; · iexact IR5
    isplitr; · iexact Hlev
    isplitl [CR5]; · iexact CR5
    isplitl [HO]; · iexact HO
    iexact AR5
  iintro ⟨HO, AR5, N5⟩
  ihave N5 := (show _ ⊢ mpts slot2 c fullShare (gotC W c) from eq_take (rest_recv W c 5)) $$ N5
  -- the statistics
  ihave H14 : pt c cc1_scratch7 fullShare (gotC W c) $$ [N3 N4 N5]
  · iapply (got_slots c (gotC W c)).2
    isplitr [N5]
    · isplitl [N3]; · iexact N3
      iexact N4
    iexact N5
  beta_reduce
  rw [ret_bind]
  iapply (step_bind c _ _)
  sl_exec
  ihave H3 : pt c cc1_stg2_0 fullShare (statsOut W c) $$ [H3]
  · iapply (unstate c cc1_stg2_0 fullShare _)
    iapply (restate c cc1_stg2_0 fullShare _ (statsOut W c) ?_) $$ H3
    exact out_stores W c f3 _ _ _ _ _ _ _ _ _ _ (View.readAt_full _ _ _) (View.readAt_full _ _ _)
      (got_load _ 0 0 _ rfl _) (got_load _ 1 0 _ rfl _) (got_load _ 2 0 _ rfl _) (got_load _ 0 1 _ rfl _) (got_load _ 1 1 _ rfl _) (got_load _ 2 1 _ rfl _)
  -- the last signals
  iapply (step_signal W c (nb 0 c) _ (dev10_eq c _) doneS 0 (κ (doneCell (nb 0 c))) (owed 2 c)
    (by rw [duties_done]; exact Finset.mem_univ _) (amount_done W _ _)) $$ [HO TD0]
  · isplitr; · iexact ID0
    isplitr; · iexact QD0
    isplitl [HO]; · iexact HO
    isplitl [TD0]; · iexact TD0
    iapply (done_give W (nb 0 c) 0)
    iempintro
  iintro HO
  iapply (step_ret c _)
  iapply (step_signal W c (nb 1 c) _ (dev11_eq c _) doneS 1 (κ (doneCell (nb 1 c))) (owed 1 c)
    (by rw [duties_done]; exact Finset.mem_univ _) (amount_done W _ _)) $$ [HO TD1]
  · isplitr; · iexact ID1
    isplitr; · iexact QD1
    isplitl [HO]; · iexact HO
    isplitl [TD1]; · iexact TD1
    iapply (done_give W (nb 1 c) 1)
    iempintro
  iintro HO
  iapply (step_signal W c (nb 2 c) _ (dev12_eq c _) doneS 2 (κ (doneCell (nb 2 c))) (owed 0 c)
    (by rw [duties_done]; exact Finset.mem_univ _) (amount_done W _ _)) $$ [HO TD2]
  · isplitr; · iexact ID2
    isplitr; · iexact QD2
    isplitl [HO]; · iexact HO
    isplitl [TD2]; · iexact TD2
    iapply (done_give W (nb 2 c) 2)
    iempintro
  iintro HO
  iapply (step_wait W c (.reg doneS) 3 0 (κ (doneCell c)) _ (wpE_semWait_eq 𝒱₀ (c : Thread nD τ) none Set.univ) (expect_done W c) (by decide)) $$ [CD HO AD]
  · isplitr; · iexact ID
    isplitr; · iexact Hlev
    isplitl [CD]; · iexact CD
    isplitl [HO]; · iexact HO
    iexact AD
  iintro ⟨HO, AD, -⟩
  rw [ret_bind]
  -- every semaphore comes back at rest
  iapply (step_close c _)
  imod (close W (κ (barCell c)) (barCell c)) $$ [AB] with V0
  · isplitr; · iexact IB
    iexact AB
  imod (close W (κ (doneCell c)) (doneCell c)) $$ [AD] with V1
  · isplitr; · iexact ID
    iexact AD
  imod (close W (κ (sendCell 0 c)) (sendCell 0 c)) $$ [AS0] with VS0
  · isplitr; · iexact IS0
    iexact AS0
  imod (close W (κ (sendCell 1 c)) (sendCell 1 c)) $$ [AS1] with VS1
  · isplitr; · iexact IS1
    iexact AS1
  imod (close W (κ (sendCell 2 c)) (sendCell 2 c)) $$ [AS2] with VS2
  · isplitr; · iexact IS2
    iexact AS2
  imod (close W (κ (sendCell 3 c)) (sendCell 3 c)) $$ [AS3] with VS3
  · isplitr; · iexact IS3
    iexact AS3
  imod (close W (κ (sendCell 4 c)) (sendCell 4 c)) $$ [AS4] with VS4
  · isplitr; · iexact IS4
    iexact AS4
  imod (close W (κ (sendCell 5 c)) (sendCell 5 c)) $$ [AS5] with VS5
  · isplitr; · iexact IS5
    iexact AS5
  imod (close W (κ (recvCell 0 c)) (recvCell 0 c)) $$ [AR0] with VR0
  · isplitr; · iexact IR0
    iexact AR0
  imod (close W (κ (recvCell 1 c)) (recvCell 1 c)) $$ [AR1] with VR1
  · isplitr; · iexact IR1
    iexact AR1
  imod (close W (κ (recvCell 2 c)) (recvCell 2 c)) $$ [AR2] with VR2
  · isplitr; · iexact IR2
    iexact AR2
  imod (close W (κ (recvCell 3 c)) (recvCell 3 c)) $$ [AR3] with VR3
  · isplitr; · iexact IR3
    iexact AR3
  imod (close W (κ (recvCell 4 c)) (recvCell 4 c)) $$ [AR4] with VR4
  · isplitr; · iexact IR4
    iexact AR4
  imod (close W (κ (recvCell 5 c)) (recvCell 5 c)) $$ [AR5] with VR5
  · isplitr; · iexact IR5
    iexact AR5
  imodintro
  iapply Hk
  isplitl [V0]; · iexact V0
  isplitl [V1]; · iexact V1
  isplitl [VS0 VS1 VS2 VS3 VS4 VS5]
  · isplitl [VS0]; · iexact VS0
    isplitl [VS1]; · iexact VS1
    isplitl [VS2]; · iexact VS2
    isplitl [VS3]; · iexact VS3
    isplitl [VS4]; · iexact VS4
    iexact VS5
  isplitl [VR0 VR1 VR2 VR3 VR4 VR5]
  · isplitl [VR0]; · iexact VR0
    isplitl [VR1]; · iexact VR1
    isplitl [VR2]; · iexact VR2
    isplitl [VR3]; · iexact VR3
    isplitl [VR4]; · iexact VR4
    iexact VR5
  isplitl [Hs0 Hs1 Hs2]
  · isplitl [Hs0]; · iexact Hs0
    isplitl [Hs1]; · iexact Hs1
    iexact Hs2
  isplitl [Hx0 Hx1 Hx2]
  · iapply (pointsTo_share (PosShare.mem_left_op_right fullShare)).2
    isplitl [Hx0]; · iexact Hx0
    iapply (pointsTo_share (PosShare.mem_left_op_right fullShare.right)).2
    isplitl [Hx1]; · iexact Hx1
    iexact Hx2
  isplitl [H7 H8 H9 Z0 Z1 Z2 Z3 Z4 Z5 H14]
  · isplitl [H7]; · iexists _; iexact H7
    isplitl [H8]; · iexists _; iexact H8
    isplitl [H9]; · iexists _; iexact H9
    isplitl [Z0]; · iexists (rowC W c); iapply (unstate c cc1_scratch3 fullShare _) $$ Z0
    isplitl [Z1]; · iexists (colC W c); iapply (unstate c cc1_scratch4 fullShare _) $$ Z1
    isplitl [Z2]; · iexists (cornC W c); iapply (unstate c cc1_scratch5 fullShare _) $$ Z2
    isplitl [Z3 Z4 Z5]
    · iexists (statC W c)
      iapply (unstate c cc1_scratch6 fullShare _)
      iapply (pointsTo_share (PosShare.mem_left_op_right fullShare)).2
      isplitl [Z3]; · iexact Z3
      iapply (pointsTo_share (PosShare.mem_left_op_right fullShare.right)).2
      isplitl [Z4]; · iexact Z4
      iexact Z5
    iexists (gotC W c); iexact H14
  isplitl [Hp Hq]
  · isplitl [Hp]; · iexact Hp
    iexact Hq
  isplitl [H3 N0 N1 N2]
  · isplitl [H3]; · iexact H3
    isplitl [N0]; · iapply (unstate c cc1_stg3_0 fullShare _) $$ N0
    isplitl [N1]; · iapply (unstate c cc1_stg4_0 fullShare _) $$ N1
    iapply (unstate c cc1_stg5_0 fullShare _) $$ N2
  iapply (ow_zero c) $$ HO

end Cert.KernelIdeal.Talk
-- ==== Proof.Talk.Region.lean ====
/- The exchange as the second call: its proof data over its one block, and the body's obligation. -/
module

public import proofs.«01_k».proof.Proof.Talk.Run
public import Idealize.ShloMosaic.Lib.Pipeline.Value
public import Idealize.ShloMosaic.Lib.Pipeline.FrameBody
public import Idealize.ShloMosaic.Lib.Pipeline.TableIdle

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal.Gen

variable {F : FTy → Type} [FloatOps F]

local notation "𝕄" => MT nD τ sig Unit (Elt F) ℕ UU ℕ

variable (W : Vals F)

/-! ## The call's own semaphores -/

/-- The cells of the exchange that the call itself allocates: six for copies out, six for copies in, the last signal. -/
abbrev Own : Type := (Fin 6 ⊕ Fin 6) ⊕ Unit
def ownS : Own → SemLoc sig
  | .inl (.inl k) => .dma (sendS k)
  | .inl (.inr k) => .dma (recvS k)
  | .inr _ => .reg doneS
/-- All of the call's semaphores: three of local copies, then the exchange's. -/
def osem : Fin 3 ⊕ Own → SemLoc sig
  | .inl k => .dma ⟨10 + k.val, by have := k.isLt; simp only [sig]; omega⟩
  | .inr o => ownS o

theorem own_facts : Pipeline.OwnSemFacts spec1 osem := by decide

theorem own_eq (c : Dev nD) (Φ : GSem nD τ sig → sProp 𝕄) : bigSep Finset.univ (fun o : Own => Φ ((c : Thread nD τ), ownS o))
    = iprop((bigSep Finset.univ (fun k : Fin 6 => Φ (sendCell k c)) ∗ bigSep Finset.univ (fun k : Fin 6 => Φ (recvCell k c))) ∗ Φ (doneCell c)) := by
  rw [bigSep_univ_sum, bigSep_univ_sum, bigSep_univ_of_subsingleton ()]
  rfl

theorem osem_eq (c : Dev nD) : (Pipeline.ownSems0 osem c : sProp 𝕄)
    = iprop(locals (F := F) c ∗ (bigSep Finset.univ (fun k : Fin 6 => semVal (sendCell k c) 0) ∗ bigSep Finset.univ (fun k : Fin 6 => semVal (recvCell k c) 0)) ∗ semVal (doneCell c) 0) := by
  unfold Pipeline.ownSems0
  rw [bigSep_univ_sum, bigSep_W0, ← own_eq c (fun g => semVal g 0)]
  rfl

/-! ## The proof data -/

/-- What the body starts from besides its blocks. -/
def start (c : Dev nD) : sProp 𝕄 :=
  iprop((∃ κ, opened W κ c) ∗ levAts L lv ∗ locals (F := F) c ∗ pt c main_arg0 fullShare (W c main_arg0) ∗ Pipeline.scopedRest spec1 c ∗ ∃ r, prngReg c r)

/-- What it ends with besides its blocks. -/
def stop (c : Dev nD) : sProp 𝕄 :=
  iprop(semVal (barCell c) 0 ∗ Pipeline.ownSems0 osem c ∗ pt c main_arg0 fullShare (W c main_arg0) ∗ Pipeline.scopedRest spec1 c ∗ ∃ r, prngReg c r)

/-- The exchange's one block: the sums stay, the results are the totals and the neighbours' strips. -/
def dat (c : Dev nD) : Dat τ (Elt F) Unit ℕ UU ℕ cfg1 c where
  A w := W c (Pipeline.arrRef spec1 w)
  after w _ := match w with
    | ⟨0, _⟩ => (W c main_v1_0 : Vec F S2x128 .f32)
    | ⟨1, _⟩ => (W c main_v1_1 : Vec F S2x128 .f32)
    | ⟨2, _⟩ => statsOut W c
    | ⟨3, _⟩ => rowC W (nb 0 c)
    | ⟨4, _⟩ => colC W (nb 1 c)
    | ⟨5, _⟩ => cornC W (nb 2 c)
  Φ t := if t.val = 0 then start W c else stop W c
  q _ := fullShare
  owed t := if t.val = 0 then owed 12 c else 0

theorem A_eq (c : Dev nD) (w : Fin cfg1.W) : (dat W c).A w = W c (Pipeline.arrRef spec1 w) := by dsimp only [dat]

/-- A block of the sums is all of them. -/
theorem whole0 (f : (main_v1_0 : Ref sig .tc).ty.Contents (Elt F)) : ((cfg1.win 0).blk t1_0).view.read (Elt F) f = f :=
  funext fun j => congrArg f (funext fun a => Fin.ext (Pipeline.Window.rect_emb_val_of_index_zero win1_0 t1_0 a (by match a with | ⟨0, _⟩ => rfl | ⟨1, _⟩ => rfl) j))
theorem before0 (c : Dev nD) (d) : (dat W c).before 0 t1_0 d = (W c main_v1_0 : Vec F S2x128 .f32) :=
  ((dat W c).before_in_eq_fetched 0 rfl (fun _ => rfl) (fun _ _ _ => rfl) (fun t => by obtain rfl := fin_N1 t; unfold Dat.blockOf; rw [A_eq]; exact (whole0 (F := F) _).symm) t1_0 d).trans
    (by unfold Dat.fetched Dat.blockOf; rw [A_eq]; exact whole0 (F := F) _)

/-- A block of the sums is all of them. -/
theorem whole1 (f : (main_v1_1 : Ref sig .tc).ty.Contents (Elt F)) : ((cfg1.win 1).blk t1_0).view.read (Elt F) f = f :=
  funext fun j => congrArg f (funext fun a => Fin.ext (Pipeline.Window.rect_emb_val_of_index_zero win1_1 t1_0 a (by match a with | ⟨0, _⟩ => rfl | ⟨1, _⟩ => rfl) j))
theorem before1 (c : Dev nD) (d) : (dat W c).before 1 t1_0 d = (W c main_v1_1 : Vec F S2x128 .f32) :=
  ((dat W c).before_in_eq_fetched 1 rfl (fun _ => rfl) (fun _ _ _ => rfl) (fun t => by obtain rfl := fin_N1 t; unfold Dat.blockOf; rw [A_eq]; exact (whole1 (F := F) _).symm) t1_0 d).trans
    (by unfold Dat.fetched Dat.blockOf; rw [A_eq]; exact whole1 (F := F) _)

/-! ## The scratch buffers among those no window stages -/

theorem scratch_out (c : Dev nD) : (Pipeline.scopedRest spec1 c : sProp 𝕄)
    ⊢ iprop(scratch (F := F) c ∗ (scratch (F := F) c -∗ Pipeline.scopedRest spec1 c)) := by
  rw [scopedRest1_eq]
  unfold scratch
  iintro ⟨A0, A1, A2, A3, A4, A5, A6, A7, A8, A9, A10, A11, A12, A13, A14, A15, A16, A17, A18, A19, A20, A21, A22, A23⟩
  isplitl [A4 A5 A6 A7 A8 A9 A10 A11]
  · isplitl [A4]; · iexact A4
    isplitl [A5]; · iexact A5
    isplitl [A6]; · iexact A6
    isplitl [A7]; · iexact A7
    isplitl [A8]; · iexact A8
    isplitl [A9]; · iexact A9
    isplitl [A10]; · iexact A10
    iexact A11
  iintro ⟨A4, A5, A6, A7, A8, A9, A10, A11⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  iexact A23

/-! ## What is owed around the body -/

theorem owes_out (c : Dev nD) : ((dat W c).owesAt () t1_0.castSucc : sProp 𝕄) ⊢ ow c (owed 12 c) := by
  unfold Dat.owesAt Pipeline.owesWithin ow
  rw [show (dat W c).owed t1_0.castSucc = owed 12 c from rfl]
  iintro ⟨%S, -, HO⟩
  iexists S; iexact HO

theorem owes_in (c : Dev nD) : ow c 0 ⊢ ((dat W c).owesAt () t1_0.succ : sProp 𝕄) := by
  unfold Dat.owesAt Pipeline.owesWithin ow
  rw [show (dat W c).owed t1_0.succ = 0 from rfl]
  iintro ⟨%S, HO⟩
  iexists S; isplitr; · ipureintro; exact fun _ _ => Or.inl trivial
  iexact HO

/-! ## The body -/

/-- What the body starts from. -/
def bodyPre (c : Dev nD) : sProp 𝕄 :=
  iprop(start W c ∗ (dat W c).owesAt () t1_0.castSucc
    ∗ (∃ d, owns (c : Thread nD τ) (st1_0 t1_0) fullShare ((dat W c).before 0 t1_0 d))
    ∗ (∃ d, owns (c : Thread nD τ) (st1_1 t1_0) fullShare ((dat W c).before 1 t1_0 d))
    ∗ (∃ d, owns (c : Thread nD τ) (st1_2 t1_0) fullShare ((dat W c).before 2 t1_0 d))
    ∗ (∃ d, owns (c : Thread nD τ) (st1_3 t1_0) fullShare ((dat W c).before 3 t1_0 d))
    ∗ (∃ d, owns (c : Thread nD τ) (st1_4 t1_0) fullShare ((dat W c).before 4 t1_0 d))
    ∗ (∃ d, owns (c : Thread nD τ) (st1_5 t1_0) fullShare ((dat W c).before 5 t1_0 d)))

/-- What it ends with. -/
def bodyPost (c : Dev nD) : sProp 𝕄 :=
  iprop(stop W c ∗ (dat W c).owesAt () t1_0.succ
    ∗ owns (c : Thread nD τ) (st1_0 t1_0) fullShare ((dat W c).after 0 t1_0)
    ∗ owns (c : Thread nD τ) (st1_1 t1_0) fullShare ((dat W c).after 1 t1_0)
    ∗ owns (c : Thread nD τ) (st1_2 t1_0) fullShare ((dat W c).after 2 t1_0)
    ∗ owns (c : Thread nD τ) (st1_3 t1_0) fullShare ((dat W c).after 3 t1_0)
    ∗ owns (c : Thread nD τ) (st1_4 t1_0) fullShare ((dat W c).after 4 t1_0)
    ∗ owns (c : Thread nD τ) (st1_5 t1_0) fullShare ((dat W c).after 5 t1_0))

theorem stage0 (c : Dev nD) (f : (cc1_stg0_0 : Ref sig .tc).ty.Contents (Elt F)) : (owns (c : Thread nD τ) (st1_0 t1_0) fullShare f : sProp 𝕄) = pt c cc1_stg0_0 fullShare f := owns_whole (c : Thread nD τ) cc1_stg0_0 fullShare f
theorem stage1 (c : Dev nD) (f : (cc1_stg1_0 : Ref sig .tc).ty.Contents (Elt F)) : (owns (c : Thread nD τ) (st1_1 t1_0) fullShare f : sProp 𝕄) = pt c cc1_stg1_0 fullShare f := owns_whole (c : Thread nD τ) cc1_stg1_0 fullShare f
theorem stage2 (c : Dev nD) (f : (cc1_stg2_0 : Ref sig .tc).ty.Contents (Elt F)) : (owns (c : Thread nD τ) (st1_2 t1_0) fullShare f : sProp 𝕄) = pt c cc1_stg2_0 fullShare f := owns_whole (c : Thread nD τ) cc1_stg2_0 fullShare f
theorem stage3 (c : Dev nD) (f : (cc1_stg3_0 : Ref sig .tc).ty.Contents (Elt F)) : (owns (c : Thread nD τ) (st1_3 t1_0) fullShare f : sProp 𝕄) = pt c cc1_stg3_0 fullShare f := owns_whole (c : Thread nD τ) cc1_stg3_0 fullShare f
theorem stage4 (c : Dev nD) (f : (cc1_stg4_0 : Ref sig .tc).ty.Contents (Elt F)) : (owns (c : Thread nD τ) (st1_4 t1_0) fullShare f : sProp 𝕄) = pt c cc1_stg4_0 fullShare f := owns_whole (c : Thread nD τ) cc1_stg4_0 fullShare f
theorem stage5 (c : Dev nD) (f : (cc1_stg5_0 : Ref sig .tc).ty.Contents (Elt F)) : (owns (c : Thread nD τ) (st1_5 t1_0) fullShare f : sProp 𝕄) = pt c cc1_stg5_0 fullShare f := owns_whole (c : Thread nD τ) cc1_stg5_0 fullShare f

set_option maxHeartbeats 1600000 in
theorem body_sound (c : Dev nD) :
    bodyPre W c ⊢ wp frame (wpE (defs₀ (F := F)) 𝒱₀ (c : Thread nD τ) none) Set.univ (bodyAt1 t1_0) (fun _ => bodyPost W c) := by
  rw [talkProg_eq]
  unfold bodyPre bodyPost
  simp only [before0, before1]
  unfold start stop
  rw [osem_eq]
  iintro ⟨⟨⟨%κ, Hop⟩, #Hlev, Hloc, Hx, HR, Hp⟩, Ho, ⟨%d0, H0⟩, ⟨%d1, H1⟩, ⟨%d2, H2⟩, ⟨%d3, H3⟩, ⟨%d4, H4⟩, ⟨%d5, H5⟩⟩
  ihave HR' := (scratch_out c) $$ HR
  icases HR' with ⟨Hsc, HR⟩
  iapply (talkRun W κ c _)
  isplitl [Hop Hloc Hx Hsc Ho H0 H1 H2 H3 H4 H5]
  · unfold talkPre
    isplitl [Hop]; · iexact Hop
    isplitr; · iexact Hlev
    isplitl [Hloc]; · iexact Hloc
    isplitl [Hx]; · iexact Hx
    isplitl [Hsc]; · iexact Hsc
    isplitl [H0 H1]
    · isplitl [H0]; · iapply (eq_take (stage0 c _)) $$ H0
      iapply (eq_take (stage1 c _)) $$ H1
    isplitl [H2 H3 H4 H5]
    · isplitl [H2]; · iexists _; iapply (eq_take (stage2 c _)) $$ H2
      isplitl [H3]; · iexists _; iapply (eq_take (stage3 c _)) $$ H3
      isplitl [H4]; · iexists _; iapply (eq_take (stage4 c _)) $$ H4
      iexists _; iapply (eq_take (stage5 c _)) $$ H5
    iapply (owes_out W c) $$ Ho
  unfold talkPost
  iintro ⟨Hb, Hd, Hs, Hr, Hloc, Hx, Hsc, ⟨H0, H1⟩, ⟨H2, H3, H4, H5⟩, Ho⟩
  isplitl [Hb Hd Hs Hr Hloc Hx Hsc HR Hp]
  · isplitl [Hb]; · iexact Hb
    isplitl [Hd Hs Hr Hloc]
    · isplitl [Hloc]; · iexact Hloc
      isplitl [Hs Hr]
      · isplitl [Hs]; · iexact Hs
        iexact Hr
      iexact Hd
    isplitl [Hx]; · iexact Hx
    isplitl [Hsc HR]; · iapply HR $$ Hsc
    iexact Hp
  isplitl [Ho]; · iapply (owes_in W c) $$ Ho
  isplitl [H0]; · iapply (eq_take (stage0 c _).symm) $$ H0
  isplitl [H1]; · iapply (eq_take (stage1 c _).symm) $$ H1
  isplitl [H2]; · iapply (eq_take (stage2 c _).symm) $$ H2
  isplitl [H3]; · iapply (eq_take (stage3 c _).symm) $$ H3
  isplitl [H4]; · iapply (eq_take (stage4 c _).symm) $$ H4
  iapply (eq_take (stage5 c _).symm) $$ H5

theorem defs_row (t : Fin cfg1.N) : defs₀ (F := F) .tc cfg1.body (cfg1.bodyArgs t (cfg1.slots t)) = bodyAt1 t := by
  unfold defs₀; rw [Defs.onTc_tc]

theorem body (c : Dev nD) : BodyObligation (dat W c) (defs₀ (F := F)) 𝒱₀ () Set.univ := fun t => by
  rw [bigSep_W1, bigSep_W1, defs_row]
  obtain rfl := fin_N1 t
  exact triple_restated (body_sound W c) rfl .rfl fun _ => .rfl

/-! ## Readying the semaphores at entry -/

/-- A family of cells made ready at once. -/
theorem open_all {A : Type} [Fintype A] (κ : GSem nD τ sig → ℕ) (g : A → GSem nD τ sig) :
    iprop(bigSep Finset.univ (fun a => cellInv ER (rd W) (κ (g a)) (g a)) ∗ bigSep Finset.univ (fun a => openTok ER (g a)) ∗ bigSep Finset.univ (fun a => semVal (g a) 0))
      ⊢ (|={Set.univ}=> iprop(bigSep Finset.univ (fun a => atPos ER (g a) 0 ∅ 0) ∗ bigSep Finset.univ (fun a => reached ER (g a) 0)) : sProp 𝕄) := by
  rw [← bigSep_sep', ← bigSep_sep', ← bigSep_sep']
  exact (bigSep_mono fun a _ => Rounds.cell_open ER (rd W) (g := g a) (Set.mem_univ (κ (g a)))).trans (bigSep_fupd _ _)

/-- What device `c` holds of the exchange from the launch on. -/
def dormant (c : Dev nD) : sProp 𝕄 :=
  iprop(∃ κ, invs W κ c
    ∗ (atPos ER (barCell c) 0 ∅ 0 ∗ openTok ER (doneCell c)
      ∗ bigSep Finset.univ (fun k : Fin 6 => openTok ER (sendCell k c)) ∗ bigSep Finset.univ (fun k : Fin 6 => openTok ER (recvCell k c)))
    ∗ bigSep Finset.univ (fun d : Fin 3 => reached ER (barCell (nb d c)) 0)
    ∗ toks c ∗ creds c)

/-- At entry the call's semaphores are made ready. -/
theorem awaken (c : Dev nD) : iprop(dormant W c ∗ Pipeline.ownSems0 osem c ∗ levAts L lv)
    ⊢ (|={Set.univ}=> iprop((∃ κ, opened W κ c) ∗ levAts L lv ∗ locals (F := F) c) : sProp 𝕄) := by
  rw [osem_eq]
  unfold dormant invs
  iintro ⟨⟨%κ, ⟨⟨#Ib, #Id⟩, #Inb, #Ind, #Is, #Ir, #Inr⟩, ⟨Hab, Hod, Hos, Hor⟩, #Rb, Ht, Hc⟩, ⟨Hloc, ⟨Hs, Hr⟩, Hd⟩, #Hlev⟩
  imod (open_all W κ (fun k : Fin 6 => sendCell k c)) $$ [Hos Hs] with ⟨Has, #Rs⟩
  · isplitr; · iexact Is
    isplitl [Hos] <;> iassumption
  imod (open_all W κ (fun k : Fin 6 => recvCell k c)) $$ [Hor Hr] with ⟨Har, #Rr⟩
  · isplitr; · iexact Ir
    isplitl [Hor] <;> iassumption
  imod (Rounds.cell_open ER (rd W) (g := doneCell c) (Set.mem_univ (κ (doneCell c)))) $$ [Hod Hd] with ⟨Had, #Rd⟩
  · isplitr; · iexact Id
    isplitl [Hod] <;> iassumption
  imodintro
  isplitr [Hloc]
  · iexists κ; unfold opened invs
    isplitr
    · isplitr
      · isplitr; · iexact Ib
        iexact Id
      isplitr; · iexact Inb
      isplitr; · iexact Ind
      isplitr; · iexact Is
      isplitr; · iexact Ir
      iexact Inr
    isplitl [Hab Had Has Har]
    · isplitl [Hab]; · iexact Hab
      isplitl [Had]; · iexact Had
      isplitl [Has] <;> iassumption
    isplitr
    · isplitr; · iexact Rd
      isplitr; · iexact Rb
      isplitr; · iexact Rs
      iexact Rr
    isplitl [Ht] <;> iassumption
  isplitr; · iexact Hlev
  iexact Hloc

end Cert.KernelIdeal.Talk
-- ==== Proof.Comp.Run.lean ====
/- The third call at one block: 64 rows of one image, with the row above and the row below. -/
module

public import proofs.«01_k».proof.Proof.Talk.Slots
public import proofs.«01_k».proof.Proof.Talk.Steps
public import proofs.«01_k».proof.Proof.Gen.KernelIdeal.Points
public import Idealize.ShloMosaic.Lib.Exec
public import Idealize.ShloMosaic.Lib.VecWindow

@[expose] public section

set_option maxRecDepth 16384

noncomputable section

namespace Cert.KernelIdeal.Comp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Cert.KernelIdeal.Talk (UU Vals 𝒱₀ pt argM)

variable {F : FTy → Type} [FloatOps F]

local notation "𝕄" => MT nD τ sig Unit (Elt F) ℕ UU ℕ

/-- The elements of `x` a rectangle covers. -/
def cut {s : Shape} {e : EltTy} (x : Vec F s e) (r : Rect s) : Vec F r.shape e := fun y => x (r.idx y)

theorem readAt_cut {s : Shape} {e : EltTy} (M : Memref sig .tc .vmem s e) (h : M.IsWhole) (x : Vec F s e) (r : Rect s) :
    M.view.readAt (Elt F) r.toLoadRect (h.unread x) = cut x r := by
  funext y
  exact congrFun (h.read_unread x) _

theorem readAt_all {s : Shape} {e : EltTy} (M : Memref sig .tc .vmem s e) (h : M.IsWhole) (x : Vec F s e) {off : Fin s.rank → ℕ} (inb : ∀ a, off a + s.size a ≤ s.size a) :
    M.view.readAt (Elt F) (Rect.unit off s.size inb).toLoadRect (h.unread x) = x :=
  (View.readAt_full _ _ _).trans (h.read_unread x)

/-- The place of device `c` along the first axis, as a word. -/
def px (c : Dev nD) : BitVec 32 := Scalar.remsi (Scalar.divsi (Dev.word c) 2#32) 2#32
/-- The place of device `c` along the second axis. -/
def py (c : Dev nD) : BitVec 32 := Scalar.remsi (Scalar.divsi (Dev.word c) 1#32) 2#32
/-- The row above block `i`, or the first row. -/
def above (i : grid2.Coords) : BitVec 32 := Scalar.maxsi (Scalar.subi (Scalar.muli (BitVec.ofNat 32 (i 1).val) 64#32) 1#32) 0#32
/-- The row below block `i`, or the last row. -/
def below (i : grid2.Coords) : BitVec 32 := Scalar.minsi (Scalar.addi (Scalar.muli (BitVec.ofNat 32 (i 1).val) 64#32) 64#32) 255#32

/-- The row of `x` above block `i`. -/
abbrev topSrc (i : grid2.Coords) : Memref sig .tc .hbm S1x256x128 .f32 :=
  (argM.slice (Rect.unit (s := S2x256x256x128) (k2_off1 i) S1x1x256x128.size (k2_off1_inb i)) (fun _ => rfl)).squeeze S1x256x128 squeezes_S1x1x256x128_S1x256x128
/-- The row of `x` below block `i`. -/
abbrev botSrc (i : grid2.Coords) : Memref sig .tc .hbm S1x256x128 .f32 :=
  (argM.slice (Rect.unit (s := S2x256x256x128) (k2_off2 i) S1x1x256x128.size (k2_off2_inb i)) (fun _ => rfl)).squeeze S1x256x128 squeezes_S1x1x256x128_S1x256x128

/-- What the body stores at block `i` of device `c`. -/
def outBlk (c : Dev nD) (i : grid2.Coords) (x : Vec F S1x64x256x128 .f32) (top bot : Vec F S1x256x128 .f32) (st : Vec F S2x2x1x128 .f32)
    (hr hc : Vec F S2x256x128 .bf16) (hk : Vec F S2x1x128 .bf16) (k : Vec F S3x3x128 .f32) (wt : Vec F S128x128 .f32) : Vec F S1x64x256x128 .bf16 :=
  let a1 := BitVec.ofNat 32 (i 1).val
  let mean := k2_pay2 (cut st (Rect.unit (s := S2x2x1x128) (k2_off3 i) S1x1x1x128.size (k2_off3_inb i)))
  let rstd := k2_pay3 (cut st (Rect.unit (s := S2x2x1x128) (k2_off4 i) S1x1x1x128.size (k2_off4_inb i)))
  let xb := k2_pay4 x
  let row := cut hr (Rect.unit (s := S2x256x128) (k2_off5 i) S1x256x128.size (k2_off5_inb i))
  let col := k2_pay5 mean rstd (cut hc (Rect.unit (s := S2x256x128) (k2_off5 i) S1x256x128.size (k2_off5_inb i)))
  let mid := k2_pay6 (py c) mean rstd xb (cut hc (Rect.unit (s := S2x256x128) (k2_off6 i) S1x64x128.size (k2_off6_inb i)))
  let corn := cut hk (Rect.unit (s := S2x1x128) (k2_off7 i) S1x1x128.size (k2_off7_inb i))
  let v97 := k2_pay7 a1 (px c) mean rstd row top
  let v119 := k2_pay10 a1 (px c) (py c) (above i) mean rstd col row top corn
  let v121 := k2_pay11 a1 (px c) (py c) (above i) mean rstd col row top corn
  let v124 := k2_pay12 v97 v119 v121
  let v146 := k2_pay13 a1 (px c) mean rstd row bot
  let v160 := k2_pay14 a1 (px c) (below i) mean rstd col corn
  let v166 := k2_pay15 a1 (px c) (py c) mean rstd row bot
  let v168 := k2_pay16 a1 (px c) (py c) (below i) mean rstd col row bot corn
  k2_pay1 xb (k2_pay17 (py c) mid v124 v146 v160 v166 v168) (k2_pay18 k) (k2_pay19 (py c) mid v124 v146 v160 v166 v168 k)
    (k2_pay20 (py c) mid v124 v146 v160 v166 v168 k) (k2_pay21 (py c) mid v124 v146 v160 v166 v168) (k2_pay22 k) wt

set_option maxHeartbeats 2000000 in
/-- The body at block `i`, on whole buffers. -/
theorem run (c : Dev nD) (i : grid2.Coords) (W : Vals F)
    (a2 : Memref sig .tc .vmem S1x64x256x128 .f32) (h2 : a2.IsWhole) (a4 : Memref sig .tc .vmem S2x2x1x128 .f32) (h4 : a4.IsWhole)
    (a5 : Memref sig .tc .vmem S2x256x128 .bf16) (h5 : a5.IsWhole) (a6 : Memref sig .tc .vmem S2x256x128 .bf16) (h6 : a6.IsWhole)
    (a7 : Memref sig .tc .vmem S2x1x128 .bf16) (h7 : a7.IsWhole) (a8 : Memref sig .tc .vmem S3x3x128 .f32) (h8 : a8.IsWhole)
    (a9 : Memref sig .tc .vmem S128x128 .f32) (h9 : a9.IsWhole) (a10 : Memref sig .tc .vmem S1x64x256x128 .bf16) (h10 : a10.IsWhole)
    (x : Vec F S1x64x256x128 .f32) (st : Vec F S2x2x1x128 .f32)
    (hr hc : Vec F S2x256x128 .bf16) (hk : Vec F S2x1x128 .bf16) (k : Vec F S3x3x128 .f32) (wt : Vec F S128x128 .f32) (K : PUnit → sProp 𝕄) :
    iprop((owns (c : Thread nD τ) a2 fullShare x ∗ owns (c : Thread nD τ) a4 fullShare st ∗ owns (c : Thread nD τ) a5 fullShare hr ∗ owns (c : Thread nD τ) a6 fullShare hc
          ∗ owns (c : Thread nD τ) a7 fullShare hk ∗ owns (c : Thread nD τ) a8 fullShare k ∗ owns (c : Thread nD τ) a9 fullShare wt ∗ (∃ d, owns (c : Thread nD τ) a10 fullShare d))
        ∗ pt c main_arg0 fullShare.right (W c main_arg0)
        ∗ ((∃ f, pt (F := F) c cc2_scratch0 fullShare f) ∗ (∃ f, pt (F := F) c cc2_scratch1 fullShare f))
        ∗ (semVal ((c : Thread nD τ), .dma (35 : DmaSem sig)) 0 ∗ semVal ((c : Thread nD τ), .dma (36 : DmaSem sig)) 0)
        ∗ (∃ S, owes (c : Thread nD τ) (0 : CellTallies nD τ sig Unit) S)
        ∗ (iprop((owns (c : Thread nD τ) a2 fullShare x ∗ owns (c : Thread nD τ) a4 fullShare st ∗ owns (c : Thread nD τ) a5 fullShare hr ∗ owns (c : Thread nD τ) a6 fullShare hc
              ∗ owns (c : Thread nD τ) a7 fullShare hk ∗ owns (c : Thread nD τ) a8 fullShare k ∗ owns (c : Thread nD τ) a9 fullShare wt
              ∗ owns (c : Thread nD τ) a10 fullShare (outBlk c i x ((topSrc i).view.read (Elt F) (W c main_arg0)) ((botSrc i).view.read (Elt F) (W c main_arg0)) st hr hc hk k wt))
            ∗ pt c main_arg0 fullShare.right (W c main_arg0)
            ∗ ((∃ f, pt (F := F) c cc2_scratch0 fullShare f) ∗ (∃ f, pt (F := F) c cc2_scratch1 fullShare f))
            ∗ (semVal ((c : Thread nD τ), .dma (35 : DmaSem sig)) 0 ∗ semVal ((c : Thread nD τ), .dma (36 : DmaSem sig)) 0)
            ∗ (∃ S, owes (c : Thread nD τ) (0 : CellTallies nD τ sig Unit) S)) -∗ K ⟨⟩))
      ⊢ wp frame (wpE (defs₀ (F := F)) 𝒱₀ (c : Thread nD τ) none) Set.univ
        (cc2__compute_body i a2 h2 (Memref.whole main_arg0) (Memref.isWhole_whole _) a4 h4 a5 h5 a6 h6 a7 h7 a8 h8 a9 h9 a10 h10
          (Memref.whole cc2_scratch0) (Memref.isWhole_whole _) (Memref.whole cc2_scratch1) (Memref.isWhole_whole _) cc2_scratch2) K := by
  unfold owns
  iintro ⟨⟨⟨%f2, %hf2, H2⟩, ⟨%f4, %hf4, H4⟩, ⟨%f5, %hf5, H5⟩, ⟨%f6, %hf6, H6⟩, ⟨%f7, %hf7, H7⟩, ⟨%f8, %hf8, H8⟩, ⟨%f9, %hf9, H9⟩, ⟨%d, %f10, -, H10⟩⟩,
    Hx, ⟨⟨%f11, H11⟩, ⟨%f12, H12⟩⟩, ⟨Hs0, Hs1⟩, ⟨%S, HO⟩, Hk⟩
  obtain rfl := h2.eq_unread hf2
  obtain rfl := h4.eq_unread hf4
  obtain rfl := h5.eq_unread hf5
  obtain rfl := h6.eq_unread hf6
  obtain rfl := h7.eq_unread hf7
  obtain rfl := h8.eq_unread hf8
  obtain rfl := h9.eq_unread hf9
  ihave Hx' := (pointsTo_share (PosShare.mem_left_op_right fullShare.right)).1 $$ Hx
  icases Hx' with ⟨Hx0, Hx1⟩
  rw [cc2__compute_body_eq_skeleton]
  unfold cc2__compute_body_skel
  rw [k2_part1_eq_skeleton, k2_part2_eq_skeleton, k2_part3_eq_skeleton, k2_part4_eq_skeleton, k2_part5_eq_skeleton]
  unfold k2_part1_skel k2_part2_skel k2_part3_skel k2_part4_skel k2_part5_skel
  sl_exec
  sl_step
  iapply Hk
  isplitl [H2 H4 H5 H6 H7 H8 H9 H10]
  · isplitl [H2]; · iexists _; isplitr; · ipureintro; exact h2.read_unread _
                    iexact H2
    isplitl [H4]; · iexists _; isplitr; · ipureintro; exact h4.read_unread _
                    iexact H4
    isplitl [H5]; · iexists _; isplitr; · ipureintro; exact h5.read_unread _
                    iexact H5
    isplitl [H6]; · iexists _; isplitr; · ipureintro; exact h6.read_unread _
                    iexact H6
    isplitl [H7]; · iexists _; isplitr; · ipureintro; exact h7.read_unread _
                    iexact H7
    isplitl [H8]; · iexists _; isplitr; · ipureintro; exact h8.read_unread _
                    iexact H8
    isplitl [H9]; · iexists _; isplitr; · ipureintro; exact h9.read_unread _
                    iexact H9
    iexists _; isplitr; swap; · iexact H10
    ipureintro
    rw [View.read_writes_full]
    have ht : run.sl.v88 c i W f11 = (topSrc i).view.read (Elt F) (W c main_arg0) := (View.readAt_full _ _ _).trans (View.read_write_univ _ _)
    have hb : run.sl.v137 c i W f12 = (botSrc i).view.read (Elt F) (W c main_arg0) := (View.readAt_full _ _ _).trans (View.read_write_univ _ _)
    have e5 : run.sl.v5 c = py c := rfl
    have e2 : run.sl.v2 c = px c := rfl
    have e8 : run.sl.v8 i = above i := rfl
    have e10 : run.sl.v10 i = below i := rfl
    simp only [ht, hb, e5, e2, e8, e10, readAt_all a2 h2, readAt_all a8 h8, readAt_all a9 h9, readAt_cut a4 h4, readAt_cut a5 h5, readAt_cut a6 h6, readAt_cut a7 h7]
    rfl
  isplitl [Hx0 Hx1]
  · iapply (pointsTo_share (PosShare.mem_left_op_right fullShare.right)).2
    isplitl [Hx0]; · iexact Hx0
    iexact Hx1
  isplitl [H11 H12]
  · isplitl [H11]; · iexists _; iexact H11
    iexists _; iexact H12
  isplitl [Hs0 Hs1]
  · isplitl [Hs0]; · iexact Hs0
    iexact Hs1
  iexists _; iexact HO

end Cert.KernelIdeal.Comp
-- ==== Proof.Comp.Body.lean ====
/- The third call over its blocks: what each window holds at each block, and the call's proof data. -/
module

public import proofs.«01_k».proof.Proof.Comp.Run
public import Idealize.ShloMosaic.Lib.Pipeline.FrameBody
public import Idealize.ShloMosaic.Lib.Pipeline.TableIdle
public import Idealize.ShloMosaic.Lib.Pipeline.RegionArraysD

@[expose] public section

set_option maxRecDepth 16384

noncomputable section

namespace Cert.KernelIdeal.Comp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation cellOf)
open Cert.KernelIdeal.Gen
open Cert.KernelIdeal.Talk (UU Vals 𝒱₀ pt argM)

variable {F : FTy → Type} [FloatOps F]

local notation "𝕄" => MT nD τ sig Unit (Elt F) ℕ UU ℕ

variable (W : Vals F)

/-- Block `t` of the array window `w` moves. -/
def blk (c : Dev nD) (w : Fin cfg2.W) (t : Fin cfg2.N) : ((cfg2.win w).xblock (cfg2.grid.coords t)).Idx → Elt F (cfg2.win w).elt :=
  ((cfg2.win w).blk t).view.read (Elt F) (W c (Pipeline.arrRef spec2 w))

/-- What the body leaves of the result at block `t`. -/
def res (c : Dev nD) (t : Fin cfg2.N) : Vec F S1x64x256x128 .bf16 :=
  outBlk c (grid2.coords t) (blk W c 0 t) ((topSrc (grid2.coords t)).view.read (Elt F) (W c main_arg0)) ((botSrc (grid2.coords t)).view.read (Elt F) (W c main_arg0))
    (blk W c 1 t) (blk W c 2 t) (blk W c 3 t) (blk W c 4 t) (blk W c 5 t) (blk W c 6 t)

/-- The two semaphores of the body's own copies. -/
def osem : Fin 2 → SemLoc sig := fun k => .dma ⟨35 + k.val, by have := k.isLt; simp only [sig]; omega⟩

/-- What each block leaves; the argument's other share goes round with the scratch buffers and the semaphores. -/
def dat (c : Dev nD) : Dat τ (Elt F) Unit ℕ UU ℕ cfg2 c where
  A w := W c (Pipeline.arrRef spec2 w)
  after w t := match w with
    | ⟨0, _⟩ => blk W c 0 t
    | ⟨1, _⟩ => blk W c 1 t
    | ⟨2, _⟩ => blk W c 2 t
    | ⟨3, _⟩ => blk W c 3 t
    | ⟨4, _⟩ => blk W c 4 t
    | ⟨5, _⟩ => blk W c 5 t
    | ⟨6, _⟩ => blk W c 6 t
    | ⟨7, _⟩ => res W c t
  Φ _ := iprop(Pipeline.scopedRest spec2 c ∗ pt c main_arg0 fullShare.right (W c main_arg0) ∗ Pipeline.ownSems0 osem c)
  q w := if w.val = 0 then fullShare.left else fullShare
  owed _ := 0

theorem A_eq (c : Dev nD) (w : Fin cfg2.W) : (dat W c).A w = W c (Pipeline.arrRef spec2 w) := by dsimp only [dat]
theorem after0 (c : Dev nD) (t : Fin cfg2.N) : (dat W c).after 0 t = blk W c 0 t := by dsimp only [dat]
theorem after1 (c : Dev nD) (t : Fin cfg2.N) : (dat W c).after 1 t = blk W c 1 t := by dsimp only [dat]
theorem after2 (c : Dev nD) (t : Fin cfg2.N) : (dat W c).after 2 t = blk W c 2 t := by dsimp only [dat]
theorem after3 (c : Dev nD) (t : Fin cfg2.N) : (dat W c).after 3 t = blk W c 3 t := by dsimp only [dat]
theorem after4 (c : Dev nD) (t : Fin cfg2.N) : (dat W c).after 4 t = blk W c 4 t := by dsimp only [dat]
theorem after5 (c : Dev nD) (t : Fin cfg2.N) : (dat W c).after 5 t = blk W c 5 t := by dsimp only [dat]
theorem after6 (c : Dev nD) (t : Fin cfg2.N) : (dat W c).after 6 t = blk W c 6 t := by dsimp only [dat]
theorem after7 (c : Dev nD) (t : Fin cfg2.N) : (dat W c).after 7 t = res W c t := by dsimp only [dat]

theorem before0 (c : Dev nD) (t : Fin cfg2.N) (d) : (dat W c).before 0 t d = blk W c 0 t :=
  ((dat W c).before_in_eq_fetched 0 rfl (fun _ => rfl) (fun _ _ _ => rfl) (fun t => by rw [after0]; unfold Dat.blockOf blk; rw [A_eq]; try rfl) t d).trans
    (by unfold Dat.fetched Dat.blockOf blk; rw [A_eq]; try rfl)
theorem before1 (c : Dev nD) (t : Fin cfg2.N) (d) : (dat W c).before 1 t d = blk W c 1 t :=
  ((dat W c).before_in_eq_fetched 1 rfl (fun _ => rfl) (fun _ _ _ => rfl) (fun t => by rw [after1]; unfold Dat.blockOf blk; rw [A_eq]; try rfl) t d).trans
    (by unfold Dat.fetched Dat.blockOf blk; rw [A_eq]; try rfl)
theorem before2 (c : Dev nD) (t : Fin cfg2.N) (d) : (dat W c).before 2 t d = blk W c 2 t :=
  ((dat W c).before_in_eq_fetched 2 rfl (fun _ => rfl) (fun _ _ _ => rfl) (fun t => by rw [after2]; unfold Dat.blockOf blk; rw [A_eq]; try rfl) t d).trans
    (by unfold Dat.fetched Dat.blockOf blk; rw [A_eq]; try rfl)
theorem before3 (c : Dev nD) (t : Fin cfg2.N) (d) : (dat W c).before 3 t d = blk W c 3 t :=
  ((dat W c).before_in_eq_fetched 3 rfl (fun _ => rfl) (fun _ _ _ => rfl) (fun t => by rw [after3]; unfold Dat.blockOf blk; rw [A_eq]; try rfl) t d).trans
    (by unfold Dat.fetched Dat.blockOf blk; rw [A_eq]; try rfl)
theorem before4 (c : Dev nD) (t : Fin cfg2.N) (d) : (dat W c).before 4 t d = blk W c 4 t :=
  ((dat W c).before_in_eq_fetched 4 rfl (fun _ => rfl) (fun _ _ _ => rfl) (fun t => by rw [after4]; unfold Dat.blockOf blk; rw [A_eq]; try rfl) t d).trans
    (by unfold Dat.fetched Dat.blockOf blk; rw [A_eq]; try rfl)
theorem before5 (c : Dev nD) (t : Fin cfg2.N) (d) : (dat W c).before 5 t d = blk W c 5 t :=
  ((dat W c).before_in_eq_fetched 5 rfl (fun _ => rfl) (fun _ _ _ => rfl) (fun t => by rw [after5]; unfold Dat.blockOf blk; rw [A_eq]; try rfl) t d).trans
    (by unfold Dat.fetched Dat.blockOf blk; rw [A_eq]; try rfl)
theorem before6 (c : Dev nD) (t : Fin cfg2.N) (d) : (dat W c).before 6 t d = blk W c 6 t :=
  ((dat W c).before_in_eq_fetched 6 rfl (fun _ => rfl) (fun _ _ _ => rfl) (fun t => by rw [after6]; unfold Dat.blockOf blk; rw [A_eq]; try rfl) t d).trans
    (by unfold Dat.fetched Dat.blockOf blk; rw [A_eq]; try rfl)

theorem live7 : ∀ t : Fin cfg2.N, cfg2.idle 7 (grid2.coords t) = false := by decide +kernel

/-- The two scratch buffers among those no window stages. -/
theorem scratch_out (c : Dev nD) : (Pipeline.scopedRest spec2 c : sProp 𝕄)
    ⊢ iprop(((∃ f, pt (F := F) c cc2_scratch0 fullShare f) ∗ (∃ f, pt (F := F) c cc2_scratch1 fullShare f)) ∗ (((∃ f, pt (F := F) c cc2_scratch0 fullShare f) ∗ (∃ f, pt (F := F) c cc2_scratch1 fullShare f)) -∗ Pipeline.scopedRest spec2 c)) := by
  rw [scopedRest2_eq]
  iintro ⟨A0, A1, A2, A3, A4, A5, A6, A7, A8, A9, A10, A11, A12, A13, A14, A15, A16, A17, S0, S1⟩
  isplitl [S0 S1]
  · isplitl [S0]; · iexact S0
    iexact S1
  iintro ⟨S0, S1⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [S0]; · iexact S0
  iexact S1

theorem sems_eq (c : Dev nD) : (Pipeline.ownSems0 osem c : sProp 𝕄) = iprop(semVal ((c : Thread nD τ), .dma (35 : DmaSem sig)) 0 ∗ semVal ((c : Thread nD τ), .dma (36 : DmaSem sig)) 0) :=
  BI.bigSep_fin_two (fun k : Fin 2 => (semVal ((c : Thread nD τ), osem k) 0 : sProp 𝕄))

theorem owes_out (c : Dev nD) (t : Fin cfg2.N) : ((dat W c).owesAt () t.castSucc : sProp 𝕄) ⊢ iprop(∃ S, owes (c : Thread nD τ) (0 : CellTallies nD τ sig Unit) S) := by
  unfold Dat.owesAt Pipeline.owesWithin
  iintro ⟨%S, -, HO⟩
  iexists S; iexact HO

theorem owes_in (c : Dev nD) (t : Fin cfg2.N) : iprop(∃ S, owes (c : Thread nD τ) (0 : CellTallies nD τ sig Unit) S) ⊢ ((dat W c).owesAt () t.succ : sProp 𝕄) := by
  unfold Dat.owesAt Pipeline.owesWithin
  iintro ⟨%S, HO⟩
  iexists S; isplitr; · ipureintro; exact fun _ _ => Or.inl trivial
  iexact HO

/-- What the body at block `t` starts from. -/
def bodyPre (c : Dev nD) (t : Fin cfg2.N) : sProp 𝕄 :=
  iprop((dat W c).Φ t.castSucc ∗ (dat W c).owesAt () t.castSucc
    ∗ (∃ d, owns (c : Thread nD τ) (st2_0 t) fullShare ((dat W c).before 0 t d))
    ∗ (∃ d, owns (c : Thread nD τ) (st2_1 t) fullShare ((dat W c).before 1 t d))
    ∗ (∃ d, owns (c : Thread nD τ) (st2_2 t) fullShare ((dat W c).before 2 t d))
    ∗ (∃ d, owns (c : Thread nD τ) (st2_3 t) fullShare ((dat W c).before 3 t d))
    ∗ (∃ d, owns (c : Thread nD τ) (st2_4 t) fullShare ((dat W c).before 4 t d))
    ∗ (∃ d, owns (c : Thread nD τ) (st2_5 t) fullShare ((dat W c).before 5 t d))
    ∗ (∃ d, owns (c : Thread nD τ) (st2_6 t) fullShare ((dat W c).before 6 t d))
    ∗ (∃ d, owns (c : Thread nD τ) (st2_7 t) fullShare ((dat W c).before 7 t d)))

/-- What it ends with. -/
def bodyPost (c : Dev nD) (t : Fin cfg2.N) : sProp 𝕄 :=
  iprop((dat W c).Φ t.succ ∗ (dat W c).owesAt () t.succ
    ∗ (dat W c).leavesExact 0 t
    ∗ (dat W c).leavesExact 1 t
    ∗ (dat W c).leavesExact 2 t
    ∗ (dat W c).leavesExact 3 t
    ∗ (dat W c).leavesExact 4 t
    ∗ (dat W c).leavesExact 5 t
    ∗ (dat W c).leavesExact 6 t
    ∗ (dat W c).leavesExact 7 t)

set_option maxHeartbeats 1600000 in
theorem body_sound (c : Dev nD) (t : Fin cfg2.N) :
    bodyPre W c t ⊢ wp frame (wpE (defs₀ (F := F)) 𝒱₀ (c : Thread nD τ) none) Set.univ (bodyAt2 t) (fun _ => bodyPost W c t) := by
  unfold bodyPre bodyPost bodyAt2
  simp only [before0, before1, before2, before3, before4, before5, before6]
  rw [show (dat W c).leavesExact 0 t = owns (c : Thread nD τ) (st2_0 t) fullShare ((dat W c).after 0 t) from rfl,
    show (dat W c).leavesExact 1 t = owns (c : Thread nD τ) (st2_1 t) fullShare ((dat W c).after 1 t) from rfl,
    show (dat W c).leavesExact 2 t = owns (c : Thread nD τ) (st2_2 t) fullShare ((dat W c).after 2 t) from rfl,
    show (dat W c).leavesExact 3 t = owns (c : Thread nD τ) (st2_3 t) fullShare ((dat W c).after 3 t) from rfl,
    show (dat W c).leavesExact 4 t = owns (c : Thread nD τ) (st2_4 t) fullShare ((dat W c).after 4 t) from rfl,
    show (dat W c).leavesExact 5 t = owns (c : Thread nD τ) (st2_5 t) fullShare ((dat W c).after 5 t) from rfl,
    show (dat W c).leavesExact 6 t = owns (c : Thread nD τ) (st2_6 t) fullShare ((dat W c).after 6 t) from rfl,
    show (dat W c).leavesExact 7 t = owns (c : Thread nD τ) (st2_7 t) fullShare ((dat W c).after 7 t) from by
      unfold Dat.leavesExact; rw [live7 t],
    after0, after1, after2, after3, after4, after5, after6, after7,
    show (dat W c).Φ t.castSucc = iprop(Pipeline.scopedRest spec2 c ∗ pt c main_arg0 fullShare.right (W c main_arg0) ∗ Pipeline.ownSems0 osem c) from rfl,
    show (dat W c).Φ t.succ = iprop(Pipeline.scopedRest spec2 c ∗ pt c main_arg0 fullShare.right (W c main_arg0) ∗ Pipeline.ownSems0 osem c) from rfl, sems_eq]
  iintro ⟨⟨HR, Hx, Hs⟩, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HR' := (scratch_out c) $$ HR
  icases HR' with ⟨Hsc, HR⟩
  iapply (run c (grid2.coords t) W _ _ _ _ _ _ _ _ _ _ _ _ _ _ _ _ (blk W c 0 t) (blk W c 1 t) (blk W c 2 t) (blk W c 3 t) (blk W c 4 t) (blk W c 5 t) (blk W c 6 t) _)
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  isplitl [Hx]; · iexact Hx
  isplitl [Hsc]; · iexact Hsc
  isplitl [Hs]; · iexact Hs
  isplitl [Ho]; · iapply (owes_out W c t) $$ Ho
  iintro ⟨⟨H0, H1, H2, H3, H4, H5, H6, H7⟩, Hx, Hsc, Hs, Ho⟩
  isplitl [HR Hsc Hx Hs]
  · isplitl [HR Hsc]; · iapply HR $$ Hsc
    isplitl [Hx]; · iexact Hx
    iexact Hs
  isplitl [Ho]; · iapply (owes_in W c t) $$ Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs_row (t : Fin cfg2.N) : defs₀ (F := F) .tc cfg2.body (cfg2.bodyArgs t (cfg2.slots t)) = bodyAt2 t := by
  unfold defs₀; rw [Defs.onTc_tc]

theorem body (c : Dev nD) : BodyObligation (dat W c) (defs₀ (F := F)) 𝒱₀ () Set.univ := fun t => by
  rw [bigSep_W2, bigSep_W2, defs_row]
  exact triple_restated (body_sound W c t) rfl .rfl fun _ => .rfl

end Cert.KernelIdeal.Comp
-- ==== Proof.Whole.Buffers.lean ====
/- What the program's arrays hold between the calls, and the buffers of a device listed one by one. -/
module

public import proofs.«01_k».proof.Proof.Stats.Run
public import proofs.«01_k».proof.Proof.Talk.Region
public import proofs.«01_k».proof.Proof.Comp.Body
public import Idealize.ShloMosaic.Lib.Pipeline.RegionArraysS

@[expose] public section

set_option maxRecDepth 16384

noncomputable section

namespace Cert.KernelIdeal.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg RegionSeg)
open Cert.KernelIdeal.Gen
open Cert.KernelIdeal.Talk (UU Vals 𝒱₀ pt L lv)

variable {F : FTy → Type} [FloatOps F]

local notation "𝕄" => MT nD τ sig Unit (Elt F) ℕ UU ℕ

variable (m : (ℓ : Loc nD τ sig) → Buf (Elt F) ℓ)

/-! ## The arrays between the calls -/

/-- At the start. -/
def W0 : Vals F := fun c b => m (c, b)
/-- After the sums. -/
def W1 : Vals F := fun c => Pipeline.afterRegion (Stats.dat (W0 m) c) (W0 m c)
/-- After the exchange. -/
def W2 : Vals F := fun c => Pipeline.afterRegion (Talk.dat (W1 m) c) (W1 m c)
/-- At the end. -/
def W3 : Vals F := fun c => Pipeline.afterRegion (Comp.dat (W2 m) c) (W2 m c)

/-- The three calls' proof data. -/
def pdats : (p : Fin 3) → (c : Dev nD) → Dat τ (Elt F) Unit ℕ UU ℕ (cfgs p) c
  | 0 => Stats.dat (W0 m)
  | 1 => Talk.dat (W1 m)
  | 2 => Comp.dat (W2 m)

/-! ## The buffers one by one -/

theorem refs_eq : Pipeline.ucRefs τ sig = ([main_arg0, main_arg1, main_arg2, main_v1_0, main_v1_1, main_v2_0, main_v2_1, main_v2_2, main_v2_3, main_v3].map (Proc.devRef (τ := τ) .tc)).toFinset := by decide

theorem held_eq (c : Dev nD) (V : Valuation τ sig (Elt F)) : (StableHlo.held (c : Thread nD τ) (Pipeline.ucRefs τ sig) V : sProp 𝕄)
    = iprop(pt c main_arg0 fullShare (V main_arg0) ∗ pt c main_arg1 fullShare (V main_arg1) ∗ pt c main_arg2 fullShare (V main_arg2)
      ∗ pt c main_v1_0 fullShare (V main_v1_0) ∗ pt c main_v1_1 fullShare (V main_v1_1)
      ∗ pt c main_v2_0 fullShare (V main_v2_0) ∗ pt c main_v2_1 fullShare (V main_v2_1) ∗ pt c main_v2_2 fullShare (V main_v2_2) ∗ pt c main_v2_3 fullShare (V main_v2_3)
      ∗ pt c main_v3 fullShare (V main_v3)) := by
  unfold StableHlo.held
  rw [Idealize.SL.BI.bigSep_eq_bigSepL_of_eq _ refs_eq (by decide)]
  rfl

/-- The last call's arrays: half of the argument, all of the others. -/
theorem arrays2 (W : Vals F) (c : Dev nD) (G : (w : Fin cfg2.W) → Buf (Elt F) ((cfg2.win w).arr.view.loc (c : Thread nD τ))) : ((Comp.dat W c).arrays G : sProp 𝕄)
    = iprop(pt c main_arg0 fullShare.left (G 0) ∗ pt c main_v2_0 fullShare (G 1) ∗ pt c main_v2_1 fullShare (G 2) ∗ pt c main_v2_2 fullShare (G 3)
      ∗ pt c main_v2_3 fullShare (G 4) ∗ pt c main_arg1 fullShare (G 5) ∗ pt c main_arg2 fullShare (G 6) ∗ pt c main_v3 fullShare (G 7)) := by
  unfold Dat.arrays
  rw [bigSep_congr (s := Finset.univ) (Ψ := fun w : Fin cfg2.W => ((cfg2.win w).arr.view.loc (c : Thread nD τ) ↦{(Comp.dat W c).share w} G w : sProp 𝕄))
    (fun w _ => by rw [(arr_whole2 w).set_eq_univ]), bigSep_W2]
  rfl

theorem share0 (W : Vals F) (c : Dev nD) (w : Fin cfg0.W) : (Stats.dat W c).share w = fullShare := by
  unfold Dat.share; split <;> rfl
theorem share1 (W : Vals F) (c : Dev nD) (w : Fin cfg1.W) : (Talk.dat W c).share w = fullShare := by
  unfold Dat.share; split <;> rfl

/-! ## What the calls leave unchanged -/

theorem W1_keep (c : Dev nD) (r : Ref sig .tc) (h : ∀ w, Pipeline.arrRef spec0 w = r → (cfg0.win w).isOut = false) : W1 m c r = W0 m c r :=
  Pipeline.afterRegion_keeps (Stats.dat (W0 m) c) (W0 m c) winFacts0.arr_inj (fun w => Stats.A_eq (W0 m) c w) r h
theorem W2_keep (c : Dev nD) (r : Ref sig .tc) (h : ∀ w, Pipeline.arrRef spec1 w = r → (cfg1.win w).isOut = false) : W2 m c r = W1 m c r :=
  Pipeline.afterRegion_keeps (Talk.dat (W1 m) c) (W1 m c) winFacts1.arr_inj (fun w => Talk.A_eq (W1 m) c w) r h
theorem W3_keep (c : Dev nD) (r : Ref sig .tc) (h : ∀ w, Pipeline.arrRef spec2 w = r → (cfg2.win w).isOut = false) : W3 m c r = W2 m c r :=
  Pipeline.afterRegion_keeps (Comp.dat (W2 m) c) (W2 m c) winFacts2.arr_inj (fun w => Comp.A_eq (W2 m) c w) r h

theorem W2_arg0 (c : Dev nD) : W2 m c main_arg0 = m ((c : Thread nD τ).loc main_arg0) :=
  (W2_keep m c main_arg0 (by decide)).trans (W1_keep m c main_arg0 (by decide))
theorem W2_arg1 (c : Dev nD) : W2 m c main_arg1 = m ((c : Thread nD τ).loc main_arg1) :=
  (W2_keep m c main_arg1 (by decide)).trans (W1_keep m c main_arg1 (by decide))
theorem W2_arg2 (c : Dev nD) : W2 m c main_arg2 = m ((c : Thread nD τ).loc main_arg2) :=
  (W2_keep m c main_arg2 (by decide)).trans (W1_keep m c main_arg2 (by decide))
theorem W3_arg0 (c : Dev nD) : W3 m c main_arg0 = m ((c : Thread nD τ).loc main_arg0) :=
  (W3_keep m c main_arg0 (by decide)).trans (W2_arg0 m c)
theorem W3_arg1 (c : Dev nD) : W3 m c main_arg1 = m ((c : Thread nD τ).loc main_arg1) :=
  (W3_keep m c main_arg1 (by decide)).trans (W2_arg1 m c)
theorem W3_arg2 (c : Dev nD) : W3 m c main_arg2 = m ((c : Thread nD τ).loc main_arg2) :=
  (W3_keep m c main_arg2 (by decide)).trans (W2_arg2 m c)

end Cert.KernelIdeal.Whole
-- ==== Proof.Whole.Records.lean ====
/- The three calls as steps of the program: what each is entered from and what it leaves. -/
module

public import proofs.«01_k».proof.Proof.Whole.Buffers
public import Idealize.ShloMosaic.Lib.Pipeline.RegionTalk
public import Idealize.ShloMosaic.Lib.Pipeline.RegionArraysD

@[expose] public section

set_option maxRecDepth 16384

noncomputable section

namespace Cert.KernelIdeal.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg RegionSeg)
open Cert.KernelIdeal.Gen
open Cert.KernelIdeal.Talk (UU Vals 𝒱₀ pt L lv)

variable {F : FTy → Type} [FloatOps F]

local notation "𝕄" => MT nD τ sig Unit (Elt F) ℕ UU ℕ
local notation "ℝ𝕊" => RegionSeg (pcfgs (F := F)) adm

variable (m : (ℓ : Loc nD τ sig) → Buf (Elt F) ℓ)

/-- All of a device's arrays. -/
abbrev refs : Finset (DevRef τ sig) := Pipeline.ucRefs τ sig

theorem sub0 : Pipeline.arrRefs (τ := τ) spec0 ⊆ refs := by decide
theorem sub1 : Pipeline.arrRefs (τ := τ) spec1 ⊆ refs := by decide

/-- The staging semaphores are at the lowest level. -/
theorem stage_lv0 : ∀ (w : Fin cfg0.W) (s : Fin (cfg0.win w).nbuf), Talk.kLevel (Talk.kind (.dma ((cfg0.win w).sem s))) = 0 := by decide
theorem stage_lv1 : ∀ (w : Fin cfg1.W) (s : Fin (cfg1.win w).nbuf), Talk.kLevel (Talk.kind (.dma ((cfg1.win w).sem s))) = 0 := by decide
theorem stage_lv2 : ∀ (w : Fin cfg2.W) (s : Fin (cfg2.win w).nbuf), Talk.kLevel (Talk.kind (.dma ((cfg2.win w).sem s))) = 0 := by decide

/-- What is owed at the start lies above the staging semaphores. -/
theorem owed_cut (c : Dev nD) (g : GSem nD τ sig) (u : Unit) (h : 0 < Talk.owed 12 c g u) : u ∈ L g ∧ 0 < lv g u := by
  obtain ⟨i, -, h1, h2⟩ := Talk.owed_lv 12 c g u h
  refine ⟨by unfold Talk.L; rw [if_pos h1]; exact Finset.mem_singleton_self _, ?_⟩
  rw [h2]; unfold Talk.dueLv; split
  · decide
  · split <;> decide

/-! ## The sums -/

/-- What rides along while the sums are taken. -/
def rideA (c : Dev nD) : sProp 𝕄 := iprop(Talk.dormant (W1 m) c ∗ ∃ r, prngReg c r)

set_option backward.isDefEq.respectTransparency.types false in
def reg0 : ℝ𝕊 (pdats m) () defs₀ 𝒱₀ L lv 0 :=
  RegionSeg.ofHeldIn (pcfgs (F := F)) adm (pdats m) () defs₀ 𝒱₀ L lv 0 Talk.O₀ refs (fun _ => iprop(emp)) (fun _ => iprop(emp))
    launch0.toP rfl (fun c => (Stats.body (W0 m) c).loose) (fun _ _ => rfl) (fun _ => rfl) (fun c w => share0 (W0 m) c w)
    (fun c => by
      show iprop(Pipeline.scopedRest spec0 c ∗ emp) ⊢ (Pipeline.scopedRest spec0 c : sProp 𝕄)
      iintro ⟨H, -⟩; iexact H)
    (fun c => by
      show (Pipeline.scopedRest spec0 c : sProp 𝕄) ⊢ iprop(Pipeline.scopedRest spec0 c ∗ emp)
      iintro H; isplitl [H]; · iexact H
      iempintro)
    (fun _ => 0)
    ⟨fun c w s => by rw [Talk.L_tc]; exact Finset.mem_singleton_self _, fun c w s => le_of_eq (stage_lv0 w s), fun c g u h => owed_cut c g u h⟩
    (rideA m) (W0 m) (fun c w => Stats.A_eq (W0 m) c w)

/-- Before the sums. -/
def atA (c : Dev nD) : sProp 𝕄 :=
  iprop(StableHlo.held (c : Thread nD τ) refs (W0 m c) ∗ Talk.dormant (W1 m) c ∗ (∃ r, prngReg c r) ∗ ∃ S, owes (c : Thread nD τ) (Talk.O₀ c) S)
/-- Before the exchange. -/
def atB (c : Dev nD) : sProp 𝕄 :=
  iprop(StableHlo.held (c : Thread nD τ) refs (W1 m c) ∗ Talk.dormant (W1 m) c ∗ (∃ r, prngReg c r) ∗ ∃ S, owes (c : Thread nD τ) (Talk.O₀ c) S)
/-- Before the last call. -/
def atC (c : Dev nD) : sProp 𝕄 :=
  iprop(StableHlo.held (c : Thread nD τ) refs (W2 m c) ∗ semVal (Talk.barCell c) 0 ∗ ∃ S, owes (c : Thread nD τ) (0 : CellTallies nD τ sig Unit) S)
/-- At the end. -/
def atD (c : Dev nD) : sProp 𝕄 :=
  iprop(StableHlo.held (c : Thread nD τ) refs (W3 m c) ∗ semVal (Talk.barCell c) 0)

theorem pre0 (c : Dev nD) : atA m c ⊢ (reg0 m).pre c := by
  refine BIBase.Entails.trans ?_ (RegionSeg.ofHeldIn_pre (pcs := pcfgs (F := F)) (a := adm) (p := 0) sub0 c)
  unfold atA rideA
  iintro ⟨Hh, Hd, Hp, HO⟩
  isplitl [Hh]; · iexact Hh
  isplitl [HO]; · iexact HO
  isplitr; · iempintro
  isplitl [Hd] <;> iassumption

theorem post0 (c : Dev nD) : (reg0 m).post c ⊢ atB m c := by
  refine BIBase.Entails.trans (RegionSeg.ofHeldIn_post (pcs := pcfgs (F := F)) (a := adm) (p := 0) sub0 c) ?_
  unfold atB rideA
  iintro ⟨Hh, HO, -, Hd, Hp⟩
  isplitl [Hh]; · iexact Hh
  isplitl [Hd]; · iexact Hd
  isplitl [Hp]; · iexact Hp
  iexact HO

/-! ## The exchange -/

/-- The one array the exchange reads by itself. -/
abbrev argRef : Finset (DevRef τ sig) := {Proc.devRef .tc main_arg0}
/-- The arrays that are no block of the exchange. -/
abbrev restB : Finset (DevRef τ sig) := refs \ Pipeline.arrRefs (τ := τ) spec1
theorem arg_rest : argRef ⊆ restB := by decide

theorem held_arg (c : Dev nD) (V : Valuation τ sig (Elt F)) : (StableHlo.held (c : Thread nD τ) argRef V : sProp 𝕄) = pt c main_arg0 fullShare (V main_arg0) := by
  unfold StableHlo.held; rw [bigSep_singleton]

theorem owed1_cut (c : Dev nD) (t : Fin (cfg1.N + 1)) (g : GSem nD τ sig) (u : Unit) (h : 0 < (Talk.dat (W1 m) c).owed t g u) : u ∈ L g ∧ 0 < lv g u := by
  rw [show (Talk.dat (W1 m) c).owed t = if t.val = 0 then Talk.owed 12 c else 0 from rfl] at h
  split at h
  · exact owed_cut c g u h
  · exact absurd h (Nat.lt_irrefl 0)

/-- What enters the body of the exchange. -/
def inB (c : Dev nD) : sProp 𝕄 := iprop((∃ κ, Talk.opened (W1 m) κ c) ∗ levAts L lv ∗ Talk.locals (F := F) c)

theorem enter1 (c : Dev nD) : iprop(Pipeline.scopedRest spec1 c ∗ (∃ r, prngReg c r) ∗ StableHlo.held (c : Thread nD τ) argRef (W1 m c) ∗ inB m c)
    ⊢ Talk.start (W1 m) c := by
  rw [held_arg]; unfold inB Talk.start
  iintro ⟨Hs, Hp, Hx, HK, Hlev, Hloc⟩
  isplitl [HK]; · iexact HK
  isplitl [Hlev]; · iexact Hlev
  isplitl [Hloc]; · iexact Hloc
  isplitl [Hx]; · iexact Hx
  isplitl [Hs] <;> iassumption

theorem leave1 (c : Dev nD) : Talk.stop (W1 m) c
    ⊢ iprop(Pipeline.scopedRest spec1 c ∗ (∃ r, prngReg c r) ∗ StableHlo.held (c : Thread nD τ) argRef (W2 m c) ∗ Pipeline.ownSems0 Talk.osem c ∗ semVal (Talk.barCell c) 0) := by
  rw [held_arg, W2_keep m c main_arg0 (by decide)]; unfold Talk.stop
  iintro ⟨Hb, Hos, Hx, Hs, Hp⟩
  isplitl [Hs]; · iexact Hs
  isplitl [Hp]; · iexact Hp
  isplitl [Hx]; · iexact Hx
  isplitl [Hos] <;> iassumption

set_option backward.isDefEq.respectTransparency.types false in
def reg1 : ℝ𝕊 (pdats m) () defs₀ 𝒱₀ L lv 1 :=
  RegionSeg.ofTalk (pcfgs (F := F)) adm (pdats m) () defs₀ 𝒱₀ L lv 1 Talk.osem Talk.own_facts
    argRef restB arg_rest launch1.toP rfl (fun c => (Talk.body (W1 m) c).loose)
    (fun _ => 0) Talk.O₀ (fun c => (zero_add (Talk.O₀ c)).symm) (fun _ => rfl) (fun _ => rfl) (fun c w => share1 (W1 m) c w)
    (W1 m) (W2 m) (fun c b hb => Pipeline.afterRegion_off (Talk.dat (W1 m) c) (W1 m c) refs b (Finset.mem_sdiff.mp hb).1)
    (Talk.dormant (W1 m)) (fun c => semVal (Talk.barCell c) 0) (inB m) (fun c => semVal (Talk.barCell c) 0)
    (fun c => Talk.awaken (W1 m) c) (fun c => enter1 m c) (fun c => leave1 m c)
    (fun c => by iintro H; imodintro; iexact H)
    (fun _ => 0)
    ⟨fun c w s => by rw [Talk.L_tc]; exact Finset.mem_singleton_self _, fun c w s => le_of_eq (stage_lv1 w s), fun c t g u h => owed1_cut m c t g u h⟩
    (fun _ => iprop(emp))
    (fun c w => Talk.A_eq (W1 m) c w)
    (fun c w => (Pipeline.afterRegion_arr (Talk.dat (W1 m) c) (W1 m c) winFacts1.arr_inj w).symm)

theorem pre1 (c : Dev nD) : atB m c ⊢ (reg1 m).pre c := by
  show atB m c ⊢ iprop(StableHlo.held (c : Thread nD τ) (Pipeline.arrRefs (τ := τ) spec1) (W1 m c) ∗ (∃ r, prngReg c r)
    ∗ (StableHlo.held (c : Thread nD τ) restB (W1 m c) ∗ emp) ∗ Talk.dormant (W1 m) c ∗ ∃ S, owes (c : Thread nD τ) (0 + Talk.O₀ c) S)
  unfold atB
  rw [zero_add, StableHlo.held_sub_split (c : Thread nD τ) sub1 (W1 m c)]
  iintro ⟨⟨Ha, Hr⟩, Hd, Hp, HO⟩
  isplitl [Ha]; · iexact Ha
  isplitl [Hp]; · iexact Hp
  isplitl [Hr]
  · isplitl [Hr]; · iexact Hr
    iempintro
  isplitl [Hd] <;> iassumption

theorem post1 (c : Dev nD) : (reg1 m).post c ⊢ atC m c := by
  show iprop(StableHlo.held (c : Thread nD τ) (Pipeline.arrRefs (τ := τ) spec1) (W2 m c) ∗ (∃ r, prngReg c r)
    ∗ (StableHlo.held (c : Thread nD τ) restB (W2 m c) ∗ emp) ∗ semVal (Talk.barCell c) 0 ∗ ∃ S, owes (c : Thread nD τ) (0 : CellTallies nD τ sig Unit) S) ⊢ atC m c
  unfold atC
  rw [StableHlo.held_sub_split (c : Thread nD τ) sub1 (W2 m c)]
  iintro ⟨Ha, -, ⟨Hr, -⟩, Hb, HO⟩
  isplitl [Ha Hr]
  · isplitl [Ha] <;> iassumption
  isplitl [Hb] <;> iassumption

/-! ## The last call -/

/-- What rides along: the partial sums, the barrier's counter. -/
def rideC (c : Dev nD) : sProp 𝕄 :=
  iprop(pt c main_v1_0 fullShare (W2 m c main_v1_0) ∗ pt c main_v1_1 fullShare (W2 m c main_v1_1) ∗ semVal (Talk.barCell c) 0)

theorem own_facts2 : Pipeline.OwnSemFacts spec2 Comp.osem := by decide

set_option backward.isDefEq.respectTransparency.types false in
def last : ℝ𝕊 (pdats m) () defs₀ 𝒱₀ L lv 2 :=
  RegionSeg.ofArraysD (pcfgs (F := F)) adm (pdats m) () defs₀ 𝒱₀ L lv 2 (fun _ => 0) () Comp.osem own_facts2
    (fun c => pt c main_arg0 fullShare.right (W2 m c main_arg0)) (fun c => pt c main_arg0 fullShare.right (W2 m c main_arg0))
    launch2.toP.to₀ rfl (fun c => (Comp.body (W2 m) c).loose) (fun _ _ => rfl) (fun _ => rfl)
    (fun c => by
      iintro -
      iapply (Transfers.MayWaits.zero (c : Thread nD τ) ())
      iempintro)
    (fun c => by
      show iprop(Pipeline.scopedRest spec2 c ∗ pt c main_arg0 fullShare.right (W2 m c main_arg0) ∗ Pipeline.ownSems0 Comp.osem c ∗ Transfers.MayWaits (c : Thread nD τ) () 0)
        ⊢ (iprop(Pipeline.scopedRest spec2 c ∗ pt c main_arg0 fullShare.right (W2 m c main_arg0) ∗ Pipeline.ownSems0 Comp.osem c) : sProp 𝕄)
      iintro ⟨A, B, C, -⟩
      isplitl [A]; · iexact A
      isplitl [B] <;> iassumption)
    (fun c => by
      show (iprop(Pipeline.scopedRest spec2 c ∗ pt c main_arg0 fullShare.right (W2 m c main_arg0) ∗ Pipeline.ownSems0 Comp.osem c) : sProp 𝕄) ⊢ _
      exact .rfl)
    (fun _ => 0)
    ⟨fun c w s => by rw [Talk.L_tc]; exact Finset.mem_singleton_self _, fun c w s => le_of_eq (stage_lv2 w s), fun c g u h => absurd h (Nat.lt_irrefl 0)⟩
    (rideC m)

theorem at_arr (c : Dev nD) (w : Fin cfg2.W) : (Comp.dat (W2 m) c).arrAt w cfg2.N = W3 m c (Pipeline.arrRef spec2 w) :=
  (Pipeline.afterRegion_arr (Comp.dat (W2 m) c) (W2 m c) winFacts2.arr_inj w).symm

/-- The argument's two halves. -/
theorem halves (c : Dev nD) (f : (main_arg0 : Ref sig .tc).ty.Contents (Elt F)) :
    (pt c main_arg0 fullShare f : sProp 𝕄) ⊢ iprop(pt c main_arg0 fullShare.left f ∗ pt c main_arg0 fullShare.right f) :=
  (pointsTo_share (PosShare.mem_left_op_right fullShare)).1
theorem unhalve (c : Dev nD) (f : (main_arg0 : Ref sig .tc).ty.Contents (Elt F)) :
    iprop(pt c main_arg0 fullShare.left f ∗ pt c main_arg0 fullShare.right f) ⊢ (pt c main_arg0 fullShare f : sProp 𝕄) :=
  (pointsTo_share (PosShare.mem_left_op_right fullShare)).2

theorem pre2 (c : Dev nD) : atC m c ⊢ (last m).pre c := by
  show atC m c ⊢ iprop((Comp.dat (W2 m) c).arrays ((Comp.dat (W2 m) c).arrAt · 0) ∗ pt c main_arg0 fullShare.right (W2 m c main_arg0) ∗ rideC m c
    ∗ ∃ S, owes (c : Thread nD τ) (0 : CellTallies nD τ sig Unit) S)
  unfold atC rideC
  rw [held_eq, arrays2]
  iintro ⟨⟨A0, A1, A2, B0, B1, C0, C1, C2, C3, D⟩, Hb, HO⟩
  ihave A := (halves c _) $$ A0
  icases A with ⟨Al, Ar⟩
  isplitl [Al C0 C1 C2 C3 A1 A2 D]
  · isplitl [Al]; · iexact Al
    isplitl [C0]; · iexact C0
    isplitl [C1]; · iexact C1
    isplitl [C2]; · iexact C2
    isplitl [C3]; · iexact C3
    isplitl [A1]; · iexact A1
    isplitl [A2]; · iexact A2
    iexact D
  isplitl [Ar]; · iexact Ar
  isplitl [B0 B1 Hb]
  · isplitl [B0]; · iexact B0
    isplitl [B1] <;> iassumption
  iexact HO

theorem post2 (c : Dev nD) : (last m).post c ⊢ iprop(atD m c ∗ ∃ S, owes (c : Thread nD τ) (0 : CellTallies nD τ sig Unit) S) := by
  show iprop((Comp.dat (W2 m) c).arrays ((Comp.dat (W2 m) c).arrAt · cfg2.N) ∗ pt c main_arg0 fullShare.right (W2 m c main_arg0) ∗ rideC m c
    ∗ ∃ S, owes (c : Thread nD τ) (0 : CellTallies nD τ sig Unit) S) ⊢ _
  unfold atD rideC
  rw [held_eq, arrays2, at_arr, at_arr, at_arr, at_arr, at_arr, at_arr, at_arr, at_arr, ← W3_keep m c main_v1_0 (by decide), ← W3_keep m c main_v1_1 (by decide),
    ← W3_keep m c main_arg0 (by decide)]
  iintro ⟨⟨Al, C0, C1, C2, C3, A1, A2, D⟩, Ar, ⟨B0, B1, Hb⟩, HO⟩
  isplitr [HO]
  · isplitr [Hb]
    · isplitl [Al Ar]
      · iapply (unhalve c _)
        isplitl [Al]; · iexact Al
        iexact Ar
      isplitl [A1]; · iexact A1
      isplitl [A2]; · iexact A2
      isplitl [B0]; · iexact B0
      isplitl [B1]; · iexact B1
      isplitl [C0]; · iexact C0
      isplitl [C1]; · iexact C1
      isplitl [C2]; · iexact C2
      isplitl [C3]; · iexact C3
      iexact D
    iexact Hb
  iexact HO

/-- The program as its three calls. -/
def segs : List (Pipeline.Seg (pcfgs (F := F)) adm (pdats m) () defs₀ 𝒱₀ L lv) := [.region (reg0 m), .region (reg1 m), .region (last m)]

end Cert.KernelIdeal.Whole
-- ==== Proof.Whole.Launch.lean ====
/- What the launch deals every device: the cells of the exchange with their invariants, the tokens, the credit. -/
module

public import proofs.«01_k».proof.Proof.Whole.Records
public import Idealize.ShloMosaic.Harness.Basic

@[expose] public section

set_option maxRecDepth 16384

noncomputable section

namespace Cert.KernelIdeal.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Cert.KernelIdeal.Talk (UU Vals 𝒱₀ pt L lv ER EP nb nb_nb rd cr dir sendS recvS doneS barCell doneCell sendCell recvCell Own ownS)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

theorem ownS_inj : Function.Injective ownS := by decide
theorem ownS_ne_bar : ∀ o, ownS o ≠ .reg barrier0 := by decide

def barEmb : Dev nD ↪ GSem nD τ sig := ⟨fun c => barCell c, fun _ _ h => congrArg (fun g : GSem nD τ sig => g.1.1) h⟩
def ownEmb : Dev nD × Own ↪ GSem nD τ sig :=
  ⟨fun x => ((x.1 : Thread nD τ), ownS x.2), fun _ _ h => Prod.ext (congrArg (fun g : GSem nD τ sig => g.1.1) h) (ownS_inj (congrArg Prod.snd h))⟩

/-- The cells live from the launch on. -/
abbrev live : Finset (GSem nD τ sig) := Finset.univ.map barEmb
/-- The cells readied by the exchange. -/
abbrev asleep : Finset (GSem nD τ sig) := Finset.univ.map ownEmb

/-- The payments into one device's cells: three into the barrier, three into the last signal, one into each copy's two. -/
abbrev Pay : Type := (Fin 3 ⊕ Fin 3) ⊕ (Fin 6 ⊕ Fin 6)
def paySem : Pay → SemLoc sig
  | .inl (.inl _) => .reg barrier0
  | .inl (.inr _) => .reg doneS
  | .inr (.inl k) => .dma (sendS k)
  | .inr (.inr k) => .dma (recvS k)
def payDuty : Pay → Fin 3
  | .inl (.inl d) => d
  | .inl (.inr d) => d
  | .inr _ => 0
theorem pay_inj : Function.Injective (fun p : Pay => (paySem p, payDuty p)) := by decide
def payEmb : Dev nD × Pay ↪ GSem nD τ sig × ℕ × Fin 3 :=
  ⟨fun x => (((x.1 : Thread nD τ), paySem x.2), 0, payDuty x.2), fun _ _ h =>
    Prod.ext (congrArg (fun t : GSem nD τ sig × ℕ × Fin 3 => t.1.1.1) h)
      (pay_inj (Prod.ext (congrArg (fun t : GSem nD τ sig × ℕ × Fin 3 => t.1.2) h) (congrArg (fun t : GSem nD τ sig × ℕ × Fin 3 => t.2.2) h)))⟩
def pays : Finset (GSem nD τ sig × ℕ × Fin 3) := Finset.univ.map payEmb

theorem live_asleep : Disjoint live asleep := by
  rw [Finset.disjoint_left]
  rintro g h₁ h₂
  obtain ⟨c, -, rfl⟩ := Finset.mem_map.mp h₁
  obtain ⟨x, -, h⟩ := Finset.mem_map.mp h₂
  exact ownS_ne_bar x.2 (congrArg Prod.snd h)

theorem bar_mem (c : Dev nD) : barCell c ∈ live ∪ asleep := Finset.mem_union_left _ (Finset.mem_map_of_mem barEmb (Finset.mem_univ c))
theorem own_mem (c : Dev nD) (o : Own) : ((c : Thread nD τ), ownS o) ∈ live ∪ asleep :=
  Finset.mem_union_right _ (Finset.mem_map_of_mem ownEmb (Finset.mem_univ (c, o)))

/-! ## The ghost state at launch -/

def u₀ : UU :=
  (initOf (Pipeline.cells (Pipeline.pin (pcfgs (F := F)) adm) cellOf_inj) (Pipeline.launchToks (Pipeline.pin (pcfgs (F := F)) adm) cellOf_inj),
    (launchOf live asleep pays, 1))

/-- The exchange's share, all of it at device 0. -/
def G (c : Dev nD) : sProp 𝕄 := if c = 0 then BI.own (ER (launchOf live asleep pays)) else iprop(emp)

theorem G_all : bigSep Finset.univ (G (F := F)) = BI.own (ER (launchOf live asleep pays)) := by
  rw [bigSep_univ_at _ (0 : Dev nD), bigSep_congr (s := Finset.univ.erase 0) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

theorem split₀ : (ownU (u₀ (F := F)) : sProp 𝕄)
    ⊢ |={Set.univ}=> iprop(BI.own (EP (initOf (Pipeline.cells (Pipeline.pin (pcfgs (F := F)) adm) cellOf_inj) (Pipeline.launchToks (Pipeline.pin (pcfgs (F := F)) adm) cellOf_inj)))
      ∗ bigSep Finset.univ (G (F := F))) := by
  unfold u₀
  iintro Hu
  ihave H := (ownU_pair _ _) $$ Hu
  icases H with ⟨HP, HX⟩
  imodintro
  isplitl [HP]; · iexact HP
  rw [G_all]; iexact HX

/-! ## What every device may consult, and what stays with one -/

def records (κ : GSem nD τ sig → ℕ) : sProp 𝕄 :=
  iprop((bigSep (live ∪ asleep) fun g => cellInv ER (rd (W1 m)) (κ g) g) ∗ bigSep live fun g => reached ER g 0)

instance records_persistent (κ : GSem nD τ sig → ℕ) : BI.Persistent (records m κ) := by unfold records; infer_instance

theorem inv_at (κ : GSem nD τ sig → ℕ) {g : GSem nD τ sig} (hg : g ∈ live ∪ asleep) : records m κ ⊢ cellInv ER (rd (W1 m)) (κ g) g := by
  unfold records
  iintro ⟨H, -⟩
  iapply (show (bigSep (live ∪ asleep) fun g => (cellInv ER (rd (W1 m)) (κ g) g : sProp 𝕄)) ⊢ cellInv ER (rd (W1 m)) (κ g) g from bigSep_elim hg) $$ H

theorem reached_at (κ : GSem nD τ sig → ℕ) (c : Dev nD) : records m κ ⊢ reached ER (barCell c) 0 := by
  unfold records
  iintro ⟨-, H⟩
  iapply (show (bigSep live fun g => (reached ER g 0 : sProp 𝕄)) ⊢ reached ER (barCell c) 0 from bigSep_elim (Finset.mem_map_of_mem barEmb (Finset.mem_univ c))) $$ H

theorem invs_of (κ : GSem nD τ sig → ℕ) (c : Dev nD) : records m κ ⊢ Talk.invs (W1 m) κ c := by
  unfold Talk.invs
  iintro #H
  isplitr
  · isplitr; · iapply (inv_at m κ (bar_mem c)); iexact H
    iapply (inv_at m κ (own_mem c (.inr ()))); iexact H
  isplitr; · iapply (bigSep_intro_persistent (S := Finset.univ) fun (d : Fin 3) _ => inv_at m κ (bar_mem (nb d c))); iexact H
  isplitr; · iapply (bigSep_intro_persistent (S := Finset.univ) fun (d : Fin 3) _ => inv_at m κ (own_mem (nb d c) (.inr ()))); iexact H
  isplitr; · iapply (bigSep_intro_persistent (S := Finset.univ) fun (k : Fin 6) _ => inv_at m κ (own_mem c (.inl (.inl k)))); iexact H
  isplitr; · iapply (bigSep_intro_persistent (S := Finset.univ) fun (k : Fin 6) _ => inv_at m κ (own_mem c (.inl (.inr k)))); iexact H
  iapply (bigSep_intro_persistent (S := Finset.univ) fun (k : Fin 6) _ => inv_at m κ (own_mem (nb (dir k) c) (.inl (.inr k)))); iexact H

/-- What only device `c` holds: its place at the barrier, its rights to ready its cells, its tokens. -/
def alone (c : Dev nD) : sProp 𝕄 :=
  iprop(atPos ER (barCell c) 0 ∅ 0 ∗ ((bigSep Finset.univ (fun k : Fin 6 => openTok ER (sendCell k c)) ∗ bigSep Finset.univ (fun k : Fin 6 => openTok ER (recvCell k c))) ∗ openTok ER (doneCell c)) ∗ Talk.toks c)

/-- What of a device's holdings is not ghost state. -/
def bundle (c : Dev nD) : sProp 𝕄 :=
  iprop(StableHlo.held (c : Thread nD τ) refs (W0 m c) ∗ Talk.creds c ∗ owes (c : Thread nD τ) (Talk.O₀ c) ∅ ∗ ∃ r, prngReg c r)

theorem begin_of (κ : GSem nD τ sig → ℕ) (c : Dev nD) : iprop(records m κ ∗ (alone c ∗ bundle m c)) ⊢ atA m c := by
  unfold atA alone bundle Talk.dormant
  iintro ⟨#HR, ⟨Hat, ⟨⟨Hs, Hr⟩, Hd⟩, Ht⟩, Hh, Hc, HO, Hp⟩
  isplitl [Hh]; · iexact Hh
  isplitl [Hat Hs Hr Hd Ht Hc]
  · iexists κ
    isplitr; · iapply (invs_of m κ c); iexact HR
    isplitl [Hat Hs Hr Hd]
    · isplitl [Hat]; · iexact Hat
      isplitl [Hd]; · iexact Hd
      isplitl [Hs] <;> iassumption
    isplitr; · iapply (bigSep_intro_persistent (S := Finset.univ) fun (d : Fin 3) _ => reached_at m κ (nb d c)); iexact HR
    isplitl [Ht] <;> iassumption
  isplitl [Hp]; · iexact Hp
  iexists ∅; iexact HO

/-! ## The tokens go to the devices that pay -/

/-- A family over payments and devices is the same with every payment moved to the neighbour that makes it. -/
theorem moved {A : Type} [Fintype A] [DecidableEq A] (e : A → Fin 3) (Φ : A → Dev nD → sProp 𝕄) :
    bigSep Finset.univ (fun c : Dev nD => bigSep Finset.univ fun a : A => Φ a c) = bigSep Finset.univ (fun c : Dev nD => bigSep Finset.univ fun a : A => Φ a (nb (e a) c)) := by
  rw [← bigSep_univ_prod (fun x : Dev nD × A => Φ x.2 x.1), ← bigSep_univ_prod (fun x : Dev nD × A => Φ x.2 (nb (e x.2) x.1)),
    bigSep_univ_equiv (Equiv.mk (fun x : Dev nD × A => (nb (e x.2) x.1, x.2)) (fun x => (nb (e x.2) x.1, x.2)) (fun x => by simp only [nb_nb]) (fun x => by simp only [nb_nb])) (fun x : Dev nD × A => Φ x.2 x.1)]
  rfl

/-- Three families in a row, however bracketed. -/
theorem regroup (P Q R : sProp 𝕄) : iprop((P ∗ Q) ∗ R) = iprop(P ∗ Q ∗ R) :=
  BI.equiv_iff.mp ⟨(show iprop((P ∗ Q) ∗ R) ⊢ iprop(P ∗ Q ∗ R) from by
    iintro ⟨⟨A, B⟩, C⟩
    isplitl [A]; · iexact A
    isplitl [B] <;> iassumption), (show iprop(P ∗ Q ∗ R) ⊢ iprop((P ∗ Q) ∗ R) from by
    iintro ⟨A, B, C⟩
    isplitl [A B]
    · isplitl [A] <;> iassumption
    iexact C)⟩

theorem pays_eq : (bigSep pays (fun x => (dutyTok ER x.1 x.2.1 x.2.2 : sProp 𝕄))) = bigSep Finset.univ fun c : Dev nD => Talk.toks c := by
  unfold pays; rw [bigSep_map, bigSep_univ_prod]
  have e : (fun c : Dev nD => bigSep Finset.univ fun p : Pay => (dutyTok ER (payEmb (c, p)).1 (payEmb (c, p)).2.1 (payEmb (c, p)).2.2 : sProp 𝕄))
      = fun c => iprop((bigSep Finset.univ (fun d : Fin 3 => dutyTok ER (barCell c) 0 d) ∗ bigSep Finset.univ (fun d : Fin 3 => dutyTok ER (doneCell c) 0 d))
        ∗ (bigSep Finset.univ (fun k : Fin 6 => dutyTok ER (sendCell k c) 0 0) ∗ bigSep Finset.univ (fun k : Fin 6 => dutyTok ER (recvCell k c) 0 0))) := by
    funext c; rw [bigSep_univ_sum, bigSep_univ_sum, bigSep_univ_sum]; rfl
  rw [e, bigSep_sep', bigSep_sep', bigSep_sep']
  unfold Talk.toks
  rw [bigSep_sep', bigSep_sep', bigSep_sep',
    moved (fun d : Fin 3 => d) (fun d c => (dutyTok ER (barCell c) 0 d : sProp 𝕄)), moved (fun d : Fin 3 => d) (fun d c => (dutyTok ER (doneCell c) 0 d : sProp 𝕄)),
    moved dir (fun k c => (dutyTok ER (recvCell k c) 0 0 : sProp 𝕄))]
  exact regroup _ _ _

/-! ## The credit -/

theorem sum_due (e : Fin 3) (n : ℕ) (s : SemLoc sig) (c : Dev nD) (sm : SemLoc sig) :
    (∑ d : Dev nD, (tallyAt ((nb e d : Thread nD τ), s) () n : CellTallies nD τ sig Unit) ((c : Thread nD τ), sm) ()) = if sm = s then n else 0 := by
  by_cases h : sm = s
  · subst h
    rw [if_pos rfl, Finset.sum_congr rfl (g := fun d => if d = nb e c then n else 0) fun d _ => ?_, Finset.sum_ite_eq' Finset.univ (nb e c) fun _ => n, if_pos (Finset.mem_univ _)]
    rw [tallyAt_apply]
    by_cases h : d = nb e c
    · subst h; rw [nb_nb, if_pos ⟨rfl, rfl⟩, if_pos rfl]
    · rw [if_neg (fun ⟨h1, _⟩ => h (by rw [← nb_nb e d]; exact congrArg (nb e) (congrArg (fun g : GSem nD τ sig => g.1.1) h1).symm)), if_neg h]
  · rw [if_neg h]
    exact Finset.sum_eq_zero fun d _ => by rw [tallyAt_apply, if_neg fun h' => h (congrArg Prod.snd h'.1)]

/-- What the others owe device `c` at one of its semaphores. -/
def dueTo (sm : SemLoc sig) : ℕ :=
  (if sm = .reg doneS then 1 else 0) + (if sm = .reg doneS then 1 else 0) + (if sm = .reg doneS then 1 else 0)
  + (if sm = .dma (recvS 5) then cr 5 else 0) + (if sm = .dma (recvS 4) then cr 4 else 0) + (if sm = .dma (recvS 3) then cr 3 else 0)
  + (if sm = .dma (recvS 2) then cr 2 else 0) + (if sm = .dma (recvS 1) then cr 1 else 0) + (if sm = .dma (recvS 0) then cr 0 else 0)
  + (if sm = .reg barrier0 then 1 else 0) + (if sm = .reg barrier0 then 1 else 0) + (if sm = .reg barrier0 then 1 else 0)

theorem due_sum (c : Dev nD) (sm : SemLoc sig) : (∑ d : Dev nD, Talk.O₀ d ((c : Thread nD τ), sm) ()) = dueTo sm := by
  unfold dueTo
  simp only [Talk.O₀, Talk.owed, Talk.due, Pi.add_apply, Finsupp.add_apply, Finset.sum_add_distrib, sum_due]
  simp only [Pi.zero_apply, Finsupp.zero_apply, Finset.sum_const_zero, Nat.zero_add]

theorem credit_at (c : Dev nD) (sm : SemLoc sig) :
    tallyOn ((c : Thread nD τ), sm) (launchCredit (Pipeline.owing Talk.O₀) 0 ((c : Thread nD τ), sm)) = (tallyAt ((c : Thread nD τ), sm) () (dueTo sm) : CellTallies nD τ sig Unit) := by
  unfold tallyAt; refine congrArg _ (Finsupp.ext fun u => ?_); cases u
  rw [Pipeline.launchCredit_owing, Finsupp.single_eq_same, due_sum]

theorem due_bar : dueTo (.reg barrier0) = 3 := by unfold dueTo; simp (decide := true)
theorem due_done : dueTo (.reg doneS) = 3 := by unfold dueTo; simp (decide := true)
theorem due_recv : ∀ k : Fin 6, dueTo (.dma (recvS k)) = cr k := by
  intro k; unfold dueTo
  match k with
  | 0 => simp (decide := true)
  | 1 => simp (decide := true)
  | 2 => simp (decide := true)
  | 3 => simp (decide := true)
  | 4 => simp (decide := true)
  | 5 => simp (decide := true)

def waitS : (Unit ⊕ Unit) ⊕ Fin 6 → SemLoc sig
  | .inl (.inl _) => .reg barrier0
  | .inl (.inr _) => .reg doneS
  | .inr k => .dma (recvS k)
def waitEmb : (Unit ⊕ Unit) ⊕ Fin 6 ↪ SemLoc sig := ⟨waitS, by decide⟩

theorem creds_of (c : Dev nD) : (Pipeline.launchCred Talk.O₀ c : sProp 𝕄) ⊢ Talk.creds c := by
  unfold Pipeline.launchCred
  refine BIBase.Entails.trans (bigSep_subset (Finset.subset_univ (Finset.univ.map waitEmb))) (BI.BIBase.Entails.of_eq ?_)
  rw [bigSep_map, bigSep_univ_sum, bigSep_univ_sum, bigSep_univ_of_subsingleton (), bigSep_univ_of_subsingleton ()]
  simp only [credit_at]
  unfold Talk.creds
  rw [show (cred (tallyAt (barCell c) () 3) : sProp 𝕄) = cred (tallyAt (barCell c) () (dueTo (.reg barrier0))) from congrArg (fun n => cred (tallyAt (barCell c) () n)) due_bar.symm,
    show (cred (tallyAt (doneCell c) () 3) : sProp 𝕄) = cred (tallyAt (doneCell c) () (dueTo (.reg doneS))) from congrArg (fun n => cred (tallyAt (doneCell c) () n)) due_done.symm,
    bigSep_congr (s := Finset.univ) (Φ := fun k : Fin 6 => (cred (tallyAt (recvCell k c) () (cr k)) : sProp 𝕄))
    (Ψ := fun k => cred (tallyAt (recvCell k c) () (dueTo (.dma (recvS k))))) fun k _ => congrArg (fun n => (cred (tallyAt (recvCell k c) () n) : sProp 𝕄)) (due_recv k).symm]
  exact regroup _ _ _

/-! ## The launch -/

theorem unscoped_sems (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

/-- One device's holdings, sorted. -/
theorem sorted (c : Dev nD) : iprop(unscopedBufs c (fun b => m ((c : Thread nD τ).loc b)) ∗ unscopedSems0 c
      ∗ owes (c : Thread nD τ) (Talk.O₀ c) ∅ ∗ Pipeline.launchCred Talk.O₀ c ∗ prngReg c (ρ c) ∗ G c)
    ⊢ (iprop(bundle m c ∗ (semVal (barCell c) 0 ∗ G c)) : sProp 𝕄) := by
  rw [show unscopedBufs c (fun b => m ((c : Thread nD τ).loc b)) = StableHlo.held (c : Thread nD τ) refs (W0 m c) from Pipeline.unscopedBufs_held c (W0 m c), unscoped_sems]
  unfold bundle
  iintro ⟨Hh, Hb, HO, Hc, Hp, HG⟩
  isplitr [Hb HG]
  · isplitl [Hh]; · iexact Hh
    isplitl [Hc]; · iapply (creds_of c) $$ Hc
    isplitl [HO]; · iexact HO
    iexists (ρ c); iexact Hp
  isplitl [Hb] <;> iassumption

theorem live_eq (Φ : GSem nD τ sig → sProp 𝕄) : bigSep live Φ = bigSep Finset.univ fun c : Dev nD => Φ (barCell c) := bigSep_map (s := Finset.univ) barEmb (Φ := Φ)
theorem asleep_eq : bigSep asleep (fun g => (openTok ER g : sProp 𝕄)) = bigSep Finset.univ fun c : Dev nD =>
    iprop((bigSep Finset.univ (fun k : Fin 6 => openTok ER (sendCell k c)) ∗ bigSep Finset.univ (fun k : Fin 6 => openTok ER (recvCell k c))) ∗ openTok ER (doneCell c)) := by
  rw [bigSep_map, bigSep_univ_prod]
  exact bigSep_congr fun c _ => Talk.own_eq c fun g => openTok ER g

/-- The launch makes every device's first state at once. -/
theorem init : iprop((bigSep Finset.univ fun c : Dev nD => iprop(unscopedBufs c (fun b => m ((c : Thread nD τ).loc b)) ∗ unscopedSems0 c
        ∗ owes (c : Thread nD τ) (Talk.O₀ c) ∅ ∗ Pipeline.launchCred Talk.O₀ c ∗ prngReg c (ρ c) ∗ G c)) ∗ levAts L lv)
    ⊢ (|={Set.univ}=> bigSep Finset.univ (atA m) : sProp 𝕄) := by
  iintro ⟨H, -⟩
  ihave H' := (show (bigSep Finset.univ fun c : Dev nD => iprop(unscopedBufs c (fun b => m ((c : Thread nD τ).loc b)) ∗ unscopedSems0 c
          ∗ owes (c : Thread nD τ) (Talk.O₀ c) ∅ ∗ Pipeline.launchCred Talk.O₀ c ∗ prngReg c (ρ c) ∗ G c))
      ⊢ (bigSep Finset.univ fun c : Dev nD => iprop(bundle m c ∗ (semVal (barCell c) 0 ∗ G c)) : sProp 𝕄) from bigSep_mono fun c _ => sorted m ρ c) $$ H
  ihave H2 := Idealize.ShloMosaic.Smoke.bigSep_unpair $$ H'; icases H2 with ⟨HB, H3⟩
  ihave H4 := Idealize.ShloMosaic.Smoke.bigSep_unpair $$ H3; icases H4 with ⟨Hv, HG⟩
  imod (Rounds.fund_launch ER (rd (W1 m)) live_asleep (fun g _ h => h) pays) $$ [Hv HG] with ⟨%κ, -, #Hinv, #Hr, Hat, Hopen, Htok⟩
  · isplitl [Hv]
    · rw [live_eq]; iexact Hv
    · rw [← G_all]; iexact HG
  imodintro
  iapply (bigSep_with_persistent (R := records m κ) (Φ := fun c => iprop(alone c ∗ bundle m c)) fun c _ => begin_of m κ c)
  isplitr
  · unfold records
    isplitr; · iexact Hinv
    iexact Hr
  iapply Idealize.ShloMosaic.Smoke.bigSep_pair
  isplitr [HB]
  · unfold alone
    iapply Idealize.ShloMosaic.Smoke.bigSep_pair; isplitl [Hat]; · iapply (Talk.eq_take (live_eq _)) $$ Hat
    iapply Idealize.ShloMosaic.Smoke.bigSep_pair; isplitl [Hopen]; · iapply (Talk.eq_take asleep_eq) $$ Hopen
    iapply (Talk.eq_take pays_eq) $$ Htok
  · iexact HB

end Cert.KernelIdeal.Whole
-- ==== Proof.Whole.Main.lean ====
/- The whole program's run on four devices. -/
module

public import proofs.«01_k».proof.Proof.Whole.Launch
public import proofs.«01_k».proof.Defs
public import proofs.«01_k».proof.Proof.Gen.Kernel

@[expose] public section

set_option maxRecDepth 16384

noncomputable section

namespace Cert.KernelIdeal.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen
open Cert.KernelIdeal.Talk (UU Vals 𝒱₀ pt L lv EP L_of_ne)

variable {F : FTy → Type} [FloatOps F]

local notation "𝕄" => MT nD τ sig Unit (Elt F) ℕ UU ℕ

theorem only_bar : ∀ sm : SemLoc sig, sm.isScoped .tc = false → sm = .reg barrier0 := by decide

theorem in_refs (r : Ref sig .tc) (h : r.isScoped = false) : Proc.devRef .tc r ∈ refs := by
  refine Finset.mem_filter.mpr ⟨StableHlo.devRef_mem_tcRefs r, ?_⟩
  first | exact h | simpa using h

/-- What a final memory holds on one device. -/
def ended (m : (ℓ : Loc nD τ sig) → Buf (Elt F) ℓ) (c : Dev nD) (s : MemSt nD τ sig (Elt F)) : Prop :=
  (∀ b ∈ refs, s.mem ((c : Thread nD τ).1, b) = W3 m c b) ∧ s.sem (Talk.barCell c) = 0

set_option backward.isDefEq.respectTransparency.types false in
/-- From any memory with all counters at zero every run of the program ends, with every array as the three calls leave it and
    every counter at zero. -/
theorem run_main (m : (ℓ : Loc nD τ sig) → Buf (Elt F) ℓ) (ρ : Dev nD → PrngReg) :
    θ_run defs (onTc (τ := τ) (main (F := F))) ⟨m, fun _ => 0, ρ⟩
      (fun r => (∀ c : Dev nD, ∀ b ∈ refs, r.2.mem ((c : Thread nD τ).1, b) = W3 m c b) ∧ r.2.sem = fun _ => 0) :=
  Pipeline.θ_run_regions_kit_sems (pcfgs (F := F)) adm (pdats m) () cellOf_inj EP defs₀ 𝒱₀ L lv m ρ main (segs m)
    (fun c Q => by
      rewrite [main_chain c, Pipeline.Seg.run_eq_chain,
        show (segs m).map Pipeline.Seg.prog = [
          Prog.lift (.customCall (Pipeline.entry 0) ()),
          Prog.lift (.customCall (Pipeline.entry 1) ()),
          Prog.lift (.customCall (Pipeline.entry 2) ()) ] from rfl]
      dsimp (config := { failIfUnchanged := false }) only
      exact .rfl)
    (by simp only [segs, Pipeline.Seg.pipes_host, Pipeline.Seg.pipes_region, Pipeline.Seg.pipes_nil]; decide)
    (O₀ := Talk.O₀) (hL := L_of_ne) (G := G) (u₀ := u₀)
    (hu₀ := split₀)
    (T₀ := atA m) (Tₙ := atD m)
    (hch := ⟨fun c => pre0 m c, fun c => (post0 m c).trans (pre1 m c), fun c => (post1 m c).trans (pre2 m c), fun c => post2 m c⟩)
    (hinit := init m ρ)
    (QY := ended m)
    (hfin := fun c s' => by
      unfold atD StableHlo.held ended
      iintro ⟨⟨Hh, Hb⟩, HSI⟩
      icombine HSI Hb gives %hb
      ihave Hr := (pointsTo_read_all refs (fun b => ((c : Thread nD τ).1, b)) (W3 m c) s') $$ [Hh HSI]
      · isplitl [Hh] <;> iassumption
      icases Hr with ⟨%h, HSI⟩
      imodintro
      isplitr
      · ipureintro
        exact ⟨h, by simpa using hb⟩
      iexact HSI)
    (hQ := fun s h hs => ⟨fun c => (h c).1, sem_eq_zero hs fun c sm hsm => by
      obtain rfl := only_bar sm hsm
      exact (h c).2⟩)

/-- A final memory's arguments are the first one's. -/
theorem args_kept (m : (ℓ : Loc nD τ sig) → Buf (Elt F) ℓ) (s : MemSt nD τ sig (Elt F)) (c : Dev nD)
    (h : ∀ b ∈ refs, s.mem ((c : Thread nD τ).1, b) = W3 m c b) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2) :=
  ⟨(h main_arg0 (in_refs main_arg0 (by decide))).trans (W3_arg0 m c), (h main_arg1 (in_refs main_arg1 (by decide))).trans (W3_arg1 m c),
    (h main_arg2 (in_refs main_arg2 (by decide))).trans (W3_arg2 m c)⟩

/-- Every run ends with the arguments as they were and every counter at zero. -/
theorem frame_any (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => args_kept m r.2 c (h.1 c), h.2⟩) (run_main m ρ)

theorem frame_ideal : Cert.quiescent_KernelIdeal := fun m ρ _ => frame_any (F := Ideal) m ρ

end Cert.KernelIdeal.Whole
-- ==== Proof.Whole.Frames.lean ====
module
public import proofs.«01_k».proof.Proof.Whole.Main
public import proofs.«01_k».proof.Defs
public import proofs.«01_k».proof.Proof.Gen.Kernel
public import proofs.«01_k».proof.Proof.Gen.ReferenceIdeal.Run
@[expose] public section

set_option maxRecDepth 16384
open Idealize.ShloMosaic Idealize.SL.Sem
namespace Cert.KernelIdeal.Whole

/-- The two programs' tables of kernel bodies are one. -/
theorem bodies_eq : Cert.Kernel.defs₀ (F := Bits) = Cert.KernelIdeal.defs₀ :=
  congrArg Defs.onTc (funext fun l => funext fun p => match l, p with
    | 0, (t, s) => rfl
    | 1, (t, s) => rfl
    | 2, (t, s) => rfl
    | ⟨_ + 3, h⟩, _ => absurd h (Nat.not_lt.2 (Nat.le_add_left _ _)))

/-- The two programs' tables of definitions are one. -/
theorem defs_eq : Cert.Kernel.defs (F := Bits) = Cert.KernelIdeal.defs := by
  show Pipeline.defs (Cert.KernelIdeal.pcfgs (F := Bits)) Cert.Kernel.defs₀ = _
  rw [bodies_eq]
  rfl

/-- `Cert.quiescent_Kernel`: the run of the program at the machine's own floats. -/
theorem frame_kernel : Cert.quiescent_Kernel := fun m ρ _ => by
  show θ_run Cert.Kernel.defs _ _ _
  rw [defs_eq]
  exact frame_any (F := Bits) m ρ

/-- `Cert.quiescent_ReferenceIdeal`: the reference is a straight line of host operations and has no semaphore. -/
theorem frame_ref : Cert.quiescent_ReferenceIdeal := fun m ρ _ =>
  (θ_run _ _ _).mono (fun r h => ⟨fun c => (h c).2, sem_eq_zero_of_no_sems (by decide) r.2⟩) (Cert.ReferenceIdeal.Value.run (F := Ideal) m ρ)

end Cert.KernelIdeal.Whole
-- ==== Proof.Value.Arith.lean ====
/- Extended reals: the constants the programs name, the two spellings of the activation, and the two spellings of the variance. -/
module

public import Idealize.ShloMosaic.Lib.Pointwise

@[expose] public section

noncomputable section

namespace Cert.Value

open Idealize.ShloMosaic

/-- A sum of reals, read as an extended real, is the sum of the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## Constants -/

theorem word_count : Ideal.ofBits .f32 0x48800000#32 = ((262144 : ℝ) : EReal) := by
  simp [Ideal.ofBits, Ideal.ieee, -EReal.coe_mul]; norm_num

theorem word_half : Ideal.ofBits .bf16 0x3F00#16 = ((1 / 2 : ℝ) : EReal) := by
  simp [Ideal.ofBits, Ideal.ieee, -EReal.coe_mul]; norm_num

/-- What the two programs add to the variance, as a real. -/
def eps : ℝ := 10995116 * (2 ^ 40)⁻¹

theorem word_eps : Ideal.ofBits .f32 0x3727C5AC#32 = (eps : EReal) := by
  simp [Ideal.ofBits, Ideal.ieee, -EReal.coe_mul, eps]

theorem eps_pos : 0 < eps := by unfold eps; norm_num

/-! ## The activation -/

/-- `z / (1 + e^(-z))`. -/
def act (z : EReal) : EReal := Ideal.div z (1 + Ideal.exp (-z))

theorem half_tanh (r : ℝ) : 1 / 2 * Real.tanh (1 / 2 * r) + 1 / 2 = (1 + Real.exp (-r))⁻¹ := by
  have h1 : Real.exp (1 / 2 * r) * Real.exp (-(1 / 2 * r)) = 1 := by rw [← Real.exp_add]; simp
  have h2 : Real.exp (-r) = Real.exp (-(1 / 2 * r)) * Real.exp (-(1 / 2 * r)) := by rw [← Real.exp_add]; congr 1; ring
  have p1 := Real.exp_pos (1 / 2 * r)
  have p2 := Real.exp_pos (-(1 / 2 * r))
  rw [Real.tanh_eq_sinh_div_cosh, Real.sinh_eq, Real.cosh_eq, h2]
  set a := Real.exp (1 / 2 * r)
  set b := Real.exp (-(1 / 2 * r))
  have : 1 + b * b ≠ 0 := by positivity
  have : (a + b) / 2 ≠ 0 := by positivity
  field_simp
  nlinarith

/-- The activation written with `tanh` is the activation, at the infinities too. -/
theorem act_tanh (z : EReal) : z * (((1 / 2 : ℝ) : EReal) * Ideal.tanh (((1 / 2 : ℝ) : EReal) * z) + ((1 / 2 : ℝ) : EReal)) = act z := by
  unfold act
  induction z using EReal.rec with
  | bot =>
    rw [EReal.coe_mul_bot_of_pos (by norm_num)]
    show (⊥ : EReal) * (((1 / 2 : ℝ) : EReal) * (-1) + ((1 / 2 : ℝ) : EReal)) = Ideal.div ⊥ (1 + Ideal.exp (-⊥))
    have e : ((1 / 2 : ℝ) : EReal) * (-1) + ((1 / 2 : ℝ) : EReal) = 0 := by
      rw [show (-1 : EReal) = ((-1 : ℝ) : EReal) by norm_num, ← EReal.coe_mul, ← EReal.coe_add]; norm_num
    rw [e, mul_zero, EReal.neg_bot]
    show (0 : EReal) = Ideal.div ⊥ (1 + ⊤)
    rw [show (1 : EReal) = ((1 : ℝ) : EReal) from rfl, EReal.coe_add_top, Ideal.div, if_neg (by simp), EReal.inv_top, mul_zero]
  | top =>
    rw [EReal.coe_mul_top_of_pos (by norm_num)]
    show (⊤ : EReal) * (((1 / 2 : ℝ) : EReal) * 1 + ((1 / 2 : ℝ) : EReal)) = Ideal.div ⊤ (1 + Ideal.exp (-⊤))
    have e : ((1 / 2 : ℝ) : EReal) * 1 + ((1 / 2 : ℝ) : EReal) = 1 := by
      rw [show (1 : EReal) = ((1 : ℝ) : EReal) from rfl, ← EReal.coe_mul, ← EReal.coe_add]; norm_num
    rw [e, mul_one, EReal.neg_top]
    show (⊤ : EReal) = Ideal.div ⊤ (1 + 0)
    rw [add_zero, Ideal.div, if_neg one_ne_zero, inv_one, mul_one]
  | coe r =>
    have hp : (1 + Real.exp (-r)) ≠ 0 := by have := Real.exp_pos (-r); positivity
    rw [← EReal.coe_mul, ← EReal.coe_neg]
    show (r : EReal) * (((1 / 2 : ℝ) : EReal) * ((Real.tanh (1 / 2 * r) : ℝ) : EReal) + ((1 / 2 : ℝ) : EReal)) = Ideal.div (r : EReal) (1 + ((Real.exp (-r) : ℝ) : EReal))
    rw [← EReal.coe_mul, ← EReal.coe_add, half_tanh, show (1 : EReal) = ((1 : ℝ) : EReal) from rfl, ← EReal.coe_add,
      Ideal.div_coe hp, one_div]

/-! ## The variance -/

/-- The mean of the squares less the square of the mean is the mean of the squared distances from the mean. -/
theorem variance {ι : Type*} (s : Finset ι) (f : ι → ℝ) (n : ℝ) (hn : n ≠ 0) (hc : (s.card : ℝ) = n) :
    (∑ i ∈ s, f i * f i) / n - (∑ i ∈ s, f i) / n * ((∑ i ∈ s, f i) / n) = (∑ i ∈ s, (f i - (∑ i ∈ s, f i) / n) * (f i - (∑ i ∈ s, f i) / n)) / n := by
  set S := ∑ i ∈ s, f i with hS
  have : ∑ i ∈ s, (f i - S / n) * (f i - S / n) = ∑ i ∈ s, f i * f i - 2 * (S / n) * S + n * (S / n * (S / n)) := by
    rw [show (∑ i ∈ s, (f i - S / n) * (f i - S / n)) = ∑ i ∈ s, (f i * f i - 2 * (S / n) * f i + S / n * (S / n)) from
      Finset.sum_congr rfl fun i _ => by ring, Finset.sum_add_distrib, Finset.sum_sub_distrib, ← Finset.mul_sum, Finset.sum_const, nsmul_eq_mul, hc]
  rw [this]
  field_simp
  ring

theorem rsqrt_pos (r : ℝ) (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (by linarith), if_neg (by linarith)]

theorem div_sqrt (x : EReal) (r : ℝ) (h : 0 < r) : Ideal.div x (Ideal.sqrt (r : EReal)) = x * (((Real.sqrt r)⁻¹ : ℝ) : EReal) := by
  have : Ideal.sqrt (r : EReal) = ((Real.sqrt r : ℝ) : EReal) := by
    show (if r < 0 then (⊥ : EReal) else ((Real.sqrt r : ℝ) : EReal)) = _
    rw [if_neg (by linarith)]
  rw [this, Ideal.div_coe (by have := Real.sqrt_pos.mpr h; linarith), one_div]

end Cert.Value

end
-- ==== Proof.Value.Spec.lean ====
/- What the program computes, over real inputs: each image of the batch is normalised channel by channel, padded by its own edge, convolved three by three, passed through the activation, multiplied by the weights and added back. -/
module

public import proofs.«01_k».proof.Proof.Value.Arith

@[expose] public section

noncomputable section

namespace Cert.Value

open Idealize.ShloMosaic

/-! ## Sums over the two middle axes of a rank four array -/

section
variable {n0 n1 n2 n3 : Nat}

/-- The indices of a rank four array that agree with a given pair of outer coordinates. -/
theorem fiber_mid (h : (⟨4, ![n0, n1, n2, n3]⟩ : Shape).ReducesTo [1, 2] ⟨2, ![n0, n3]⟩) (a : Fin n0) (d : Fin n3) (i : (⟨4, ![n0, n1, n2, n3]⟩ : Shape).Idx) :
    h.drop i = ix2 a d ↔ ∃ k : Fin n1 × Fin n2, ix4 a k.1 k.2 d = i := by
  constructor
  · intro e
    refine ⟨(i 1, i 2), ?_⟩
    funext b; apply Fin.ext
    match b with
    | ⟨0, _⟩ => exact (congrArg Fin.val (congrFun e ⟨0, Nat.zero_lt_two⟩)).symm
    | ⟨1, _⟩ => rfl
    | ⟨2, _⟩ => rfl
    | ⟨3, _⟩ => exact (congrArg Fin.val (congrFun e ⟨1, Nat.one_lt_two⟩)).symm
  · rintro ⟨k, rfl⟩
    funext b
    apply Fin.ext
    match b with
    | ⟨0, _⟩ => rfl
    | ⟨1, _⟩ => rfl

theorem sum_mid (h : (⟨4, ![n0, n1, n2, n3]⟩ : Shape).ReducesTo [1, 2] ⟨2, ![n0, n3]⟩) (a : Fin n0) (d : Fin n3) (v : (⟨4, ![n0, n1, n2, n3]⟩ : Shape).Idx → EReal) :
    ∑ i ∈ Finset.univ.filter (fun i => h.drop i = ix2 a d), v i = ∑ p : Fin n1, ∑ q : Fin n2, v (ix4 a p q d) := by
  refine (Finset.sum_filter_eq_sum_of_fiber _ (fun k : Fin n1 × Fin n2 => ix4 a k.1 k.2 d) (fun _ _ e => Prod.ext (congrFun e 1) (congrFun e 2)) (fiber_mid h a d) v).trans ?_
  simp only [Fintype.sum_prod_type]

/-- The host's sum over the two middle axes. -/
theorem hostReduce_mid (h : (⟨4, ![n0, n1, n2, n3]⟩ : Shape).ReducesTo [1, 2] ⟨2, ![n0, n3]⟩) (h0 : 0 < (⟨0, ![]⟩ : Shape).numel) (x : FVec Ideal ⟨4, ![n0, n1, n2, n3]⟩ .f32) (init : FVec Ideal ⟨0, ![]⟩ .f32) (a : Fin n0) (d : Fin n3) :
    Host.reduceAdd (F := Ideal) x init h h0 (ix2 a d) = init ix0 + ∑ p : Fin n1, ∑ q : Fin n2, x (ix4 a p q d) := by
  rw [Host.reduceAdd_apply, Ideal.hostReduceAdd_def, Ideal.hostReduceAdd, sum_mid]
  exact congrArg (init · + _) (Subsingleton.elim _ _)

/-- The kernel's sum over the two middle axes. -/
theorem reduce_mid (h : (⟨4, ![n0, n1, n2, n3]⟩ : Shape).Reduces [1, 2] ⟨2, ![n0, n3]⟩) (x : FVec Ideal ⟨4, ![n0, n1, n2, n3]⟩ .f32) (a : Fin n0) (d : Fin n3) :
    Ideal.reduceAdd h x (ix2 a d) = ∑ p : Fin n1, ∑ q : Fin n2, x (ix4 a p q d) :=
  sum_mid h.reducesTo a d x

end

/-! ## The specification -/

/-- The whole input, over the reals: batch, row, column, channel. -/
abbrev Img := Fin 2 → Fin 512 → Fin 512 → Fin 128 → ℝ

/-- The sum of one image's channel. -/
def total (X : Img) (b : Fin 2) (ch : Fin 128) : ℝ := ∑ i, ∑ j, X b i j ch

def mean (X : Img) (b : Fin 2) (ch : Fin 128) : ℝ := total X b ch / 262144

def var (X : Img) (b : Fin 2) (ch : Fin 128) : ℝ := (∑ i, ∑ j, (X b i j ch - mean X b ch) * (X b i j ch - mean X b ch)) / 262144

/-- The reciprocal of the channel's deviation. -/
def rstd (X : Img) (b : Fin 2) (ch : Fin 128) : ℝ := (Real.sqrt (var X b ch + eps))⁻¹

theorem var_nonneg (X : Img) (b : Fin 2) (ch : Fin 128) : 0 ≤ var X b ch :=
  div_nonneg (Finset.sum_nonneg fun _ _ => Finset.sum_nonneg fun _ _ => mul_self_nonneg _) (by norm_num)

theorem var_eps_pos (X : Img) (b : Fin 2) (ch : Fin 128) : 0 < var X b ch + eps := add_pos_of_nonneg_of_pos (var_nonneg X b ch) eps_pos

/-- The variance from the sums of the values and of their squares. -/
theorem var_eq (X : Img) (b : Fin 2) (ch : Fin 128) : (∑ i, ∑ j, X b i j ch * X b i j ch) / 262144 - mean X b ch * mean X b ch = var X b ch := by
  have h := variance (Finset.univ : Finset (Fin 512 × Fin 512)) (fun p => X b p.1 p.2 ch) 262144 (by norm_num) (by simp)
  simp only [Fintype.sum_prod_type] at h
  exact h

/-- The normalised value. -/
def norm (X : Img) (b : Fin 2) (i j : Fin 512) (ch : Fin 128) : ℝ := (X b i j ch - mean X b ch) * rstd X b ch

/-- The row or column a padded row or column repeats: one is taken off, and the ends stay at the edge. -/
def cl (n : ℕ) : Fin 512 := ⟨min (n - 1) 511, by omega⟩

theorem cl_val (n : ℕ) : (cl n).val = min (n - 1) 511 := rfl

/-- The normalised image with each edge repeated once. -/
def pad (X : Img) (b : Fin 2) (i j : ℕ) (ch : Fin 128) : EReal := ((norm X b (cl i) (cl j) ch : ℝ) : EReal)

/-- The three by three convolution of the padded image, channel by channel. -/
def conv (X : Img) (k : Fin 3 → Fin 3 → Fin 128 → EReal) (b : Fin 2) (i j : ℕ) (ch : Fin 128) : EReal :=
  ∑ di : Fin 3, ∑ dj : Fin 3, pad X b (i + di.val) (j + dj.val) ch * k di dj ch

/-- The result. -/
def out (X : Img) (k : Fin 3 → Fin 3 → Fin 128 → EReal) (w : Fin 128 → Fin 128 → EReal) (b : Fin 2) (i j : Fin 512) (ch : Fin 128) : EReal :=
  ((X b i j ch : ℝ) : EReal) + ∑ q : Fin 128, act (conv X k b i.val j.val q) * w q ch

end Cert.Value

end
-- ==== Proof.Value.Sums.lean ====
/- What the first call leaves: each device's sums of its block and of its squares. -/
module

public import proofs.«01_k».proof.Proof.Value.Spec
public import proofs.«01_k».proof.Proof.Whole.Buffers
public import Idealize.ShloMosaic.Lib.Pipeline.ValueKit

@[expose] public section

set_option maxRecDepth 16384

noncomputable section

namespace Cert.Value.Sums

open Idealize.ShloMosaic Idealize.ShloMosaic.TcCoe Cert.KernelIdeal Cert.KernelIdeal.Gen Cert.Value
open Cert.KernelIdeal.Talk (Vals)
open Cert.KernelIdeal.Whole (W0 W1)

variable (W : Vals Ideal) (c : Dev nD)

/-- A device's `x`. -/
abbrev argX : FVec Ideal S2x256x256x128 .f32 := W c main_arg0

/-- Block `t` of a device's `x` at an index: row `32 t + p`. -/
theorem xblk_apply (t : Fin cfg0.N) (b : Fin 2) (p : Fin 32) (s : Fin 256) (ch : Fin 128) (h : 32 * t.val + p.val < 256) :
    Stats.xblk W c t (ix4 b p s ch) = argX W c (ix4 b ⟨32 * t.val + p.val, h⟩ s ch) := by
  have hi : ∀ t : Fin grid0.N, win0_0.index t = ![0, t.val, 0, 0] := by decide +kernel
  blk_ext! [Stats.xblk, hi t]

/-- A row of a device's `x`, added up over the columns, as a function of the row's number. -/
def rowSum (f : Fin 256 → Fin 256 → EReal) (n : ℕ) : EReal := if h : n < 256 then ∑ q, f ⟨n, h⟩ q else 0

theorem rowSum_of (f : Fin 256 → Fin 256 → EReal) {n : ℕ} (h : n < 256) : rowSum f n = ∑ q, f ⟨n, h⟩ q := dif_pos h

theorem pay2_apply (v : Vec Ideal S2x32x256x128 .f32) (b : Fin 2) (ch : Fin 128) : k0_pay2 v (ix2 b ch) = ∑ p, ∑ q, (v (ix4 b p q ch) : EReal) := by
  unfold k0_pay2 k0_pay1
  refine (reduce_mid _ _ b ch).trans ?_
  pointwise

theorem pay3_apply (v : Vec Ideal S2x32x256x128 .f32) (b : Fin 2) (ch : Fin 128) : k0_pay3 v (ix2 b ch) = ∑ p, ∑ q, (v (ix4 b p q ch) : EReal) * v (ix4 b p q ch) := by
  unfold k0_pay3 k0_pay1
  refine (reduce_mid _ _ b ch).trans ?_
  pointwise

theorem pay4_apply (v : Vec Ideal S2x32x256x128 .f32) (x : Vec Ideal S2x128 .f32) (b : Fin 2) (ch : Fin 128) : k0_pay4 v x (ix2 b ch) = (x (ix2 b ch) : EReal) + k0_pay2 v (ix2 b ch) := by
  unfold k0_pay4; pointwise

theorem pay5_apply (v : Vec Ideal S2x32x256x128 .f32) (x : Vec Ideal S2x128 .f32) (b : Fin 2) (ch : Fin 128) : k0_pay5 v x (ix2 b ch) = (x (ix2 b ch) : EReal) + k0_pay3 v (ix2 b ch) := by
  unfold k0_pay5; pointwise

/-- The rows of one block. -/
theorem block_rows (f : Fin 256 → Fin 256 → EReal) (n : ℕ) (hn : n < 8) (g : Fin 32 → Fin 256 → EReal) (hg : ∀ (p : Fin 32) q, g p q = f ⟨32 * n + p.val, by have := p.isLt; omega⟩ q) :
    ∑ p, ∑ q, g p q = ∑ p ∈ Finset.range 32, rowSum f (32 * n + p) := by
  rw [Finset.sum_range]
  refine Finset.sum_congr rfl fun p _ => ?_
  rw [rowSum_of f (by have := p.isLt; omega)]
  exact Finset.sum_congr rfl fun q _ => hg p q

/-- The sums over the blocks up to `n` are the sums over their rows. -/
theorem sums_apply (b : Fin 2) (ch : Fin 128) (n : ℕ) (hn : n < 8) : Stats.sums W c n (ix2 b ch)
    = ∑ p ∈ Finset.range (32 * (n + 1)), rowSum (fun p q => argX W c (ix4 b p q ch)) p := by
  induction n with
  | zero =>
    refine (pay2_apply _ b ch).trans ((block_rows (fun p q => argX W c (ix4 b p q ch)) 0 hn _ fun p q => xblk_apply W c t0_0 b p q ch (by have := p.isLt; show 32 * 0 + _ < _; omega)).trans ?_)
    simp only [Nat.mul_zero, Nat.zero_add, Nat.mul_one]
  | succ n ih =>
    have e : Stats.sums W c (n + 1) = k0_pay4 (Stats.xblk W c ⟨n + 1, hn⟩) (Stats.sums W c n) := dif_pos hn
    rw [e, pay4_apply, ih (by omega), pay2_apply, Nat.mul_succ 32 (n + 1), Finset.sum_range_add]
    exact congrArg (_ + ·) (block_rows _ (n + 1) hn _ fun p q => xblk_apply W c ⟨n + 1, hn⟩ b p q ch (by have := p.isLt; show 32 * (n + 1) + _ < _; omega))

/-- The same of the squares. -/
theorem sqs_apply (b : Fin 2) (ch : Fin 128) (n : ℕ) (hn : n < 8) : Stats.sqs W c n (ix2 b ch)
    = ∑ p ∈ Finset.range (32 * (n + 1)), rowSum (fun p q => (argX W c (ix4 b p q ch) : EReal) * argX W c (ix4 b p q ch)) p := by
  induction n with
  | zero =>
    refine (pay3_apply _ b ch).trans ((block_rows (fun p q => argX W c (ix4 b p q ch) * argX W c (ix4 b p q ch)) 0 hn _ fun p q => ?_).trans ?_)
    · rw [xblk_apply W c t0_0 b p q ch (by have := p.isLt; show 32 * 0 + _ < _; omega)]; rfl
    simp only [Nat.mul_zero, Nat.zero_add, Nat.mul_one]
  | succ n ih =>
    have e : Stats.sqs W c (n + 1) = k0_pay5 (Stats.xblk W c ⟨n + 1, hn⟩) (Stats.sqs W c n) := dif_pos hn
    rw [e, pay5_apply, ih (by omega), pay3_apply, Nat.mul_succ 32 (n + 1), Finset.sum_range_add]
    refine congrArg (_ + ·) (block_rows _ (n + 1) hn _ fun p q => ?_)
    rw [xblk_apply W c ⟨n + 1, hn⟩ b p q ch (by have := p.isLt; show 32 * (n + 1) + _ < _; omega)]

/-- All the rows. -/
theorem all_rows (f : Fin 256 → Fin 256 → EReal) : ∑ p ∈ Finset.range (32 * (7 + 1)), rowSum f p = ∑ p, ∑ q, f p q := by
  rw [Finset.sum_range]
  exact Finset.sum_congr rfl fun p _ => rowSum_of f p.isLt

variable (m : (ℓ : Loc nD τ sig) → Buf (Elt Ideal) ℓ)

/-- A device's sums after the first call. -/
abbrev sumX : FVec Ideal S2x128 .f32 := W1 m c main_v1_0
/-- Its sums of squares. -/
abbrev squareX : FVec Ideal S2x128 .f32 := W1 m c main_v1_1

/-- After the first call, each device's first array holds the sums of its block. -/
theorem total_apply (b : Fin 2) (ch : Fin 128) : sumX c m (ix2 b ch)
    = ∑ p, ∑ q, (argX (W0 m) c (ix4 b p q ch) : EReal) := by
  have e : W1 m c main_v1_0 = (Stats.sums (W0 m) c 7 : Vec Ideal S2x128 .f32) :=
    (Pipeline.afterRegion_arr (Stats.dat (W0 m) c) (W0 m c) winFacts0.arr_inj 1).trans
      ((Stats.dat (W0 m) c).arrAt_eq_of_after_last 1 ⟨7, by decide⟩ (by decide +kernel) _ fun j => by
        rw [Stats.after1]; rfl)
  exact (congrFun e (ix2 b ch)).trans ((sums_apply (W0 m) c b ch 7 (by omega)).trans (all_rows _))

/-- Its second array holds the sums of the squares. -/
theorem square_apply (b : Fin 2) (ch : Fin 128) : squareX c m (ix2 b ch)
    = ∑ p, ∑ q, (argX (W0 m) c (ix4 b p q ch) : EReal) * argX (W0 m) c (ix4 b p q ch) := by
  have e : W1 m c main_v1_1 = (Stats.sqs (W0 m) c 7 : Vec Ideal S2x128 .f32) :=
    (Pipeline.afterRegion_arr (Stats.dat (W0 m) c) (W0 m c) winFacts0.arr_inj 2).trans
      ((Stats.dat (W0 m) c).arrAt_eq_of_after_last 2 ⟨7, by decide⟩ (by decide +kernel) _ fun j => by
        rw [Stats.after2]; rfl)
  exact (congrFun e (ix2 b ch)).trans ((sqs_apply (W0 m) c b ch 7 (by omega)).trans (all_rows _))

end Cert.Value.Sums
-- ==== Proof.Value.Moments.lean ====
/- The statistics every device makes of the four devices' sums: the mean of the whole image, and one over its deviation. -/
module

public import proofs.«01_k».proof.Proof.Value.Sums

@[expose] public section

set_option maxRecDepth 16384

noncomputable section

namespace Cert.Value.Moments

open Idealize.ShloMosaic Idealize.ShloMosaic.TcCoe Cert.KernelIdeal Cert.KernelIdeal.Gen Cert.Value Cert.Value.Sums
open Cert.KernelIdeal.Talk (Vals nb)
open Cert.KernelIdeal.Whole (W0 W1 W2)

/-- The place of device `c` on the two axes. -/
def gx (c : Dev nD) : ℕ := c.val / 2
def gy (c : Dev nD) : ℕ := c.val % 2

theorem gx_lt (c : Dev nD) : gx c < 2 := by have h := c.isLt; simp only [nD] at h; unfold gx; omega
theorem gy_lt (c : Dev nD) : gy c < 2 := by unfold gy; omega

/-- Row or column `p` of the part with number `g`, in the whole image. -/
def place (g : ℕ) (p : Fin 256) (h : g < 2) : Fin 512 := ⟨256 * g + p.val, by have := p.isLt; omega⟩

theorem place_cl {g : ℕ} (p : Fin 256) (h : g < 2) : place g p h = cl (256 * g + p.val + 1) :=
  Fin.ext (by have := p.isLt; simp only [place, cl_val]; omega)

/-- The whole is its two halves. -/
theorem sum_halves (f : Fin 512 → ℝ) : ∑ i, f i = ∑ p, f (place 0 p Nat.zero_lt_two) + ∑ p, f (place 1 p Nat.one_lt_two) :=
  (Fin.sum_univ_add (a := 256) (b := 256) f).trans (congrArg₂ (· + ·)
    (Finset.sum_congr rfl fun p _ => congrArg f (Fin.ext (by simp [place])))
    (Finset.sum_congr rfl fun p _ => congrArg f (Fin.ext (by simp [place, Nat.add_comm]))))

/-- A sum over a device's part of an image. -/
def part (f : Fin 512 → Fin 512 → ℝ) (c : Dev nD) : ℝ := ∑ p, ∑ q, f (place (gx c) p (gx_lt c)) (place (gy c) q (gy_lt c))

/-- A device's part and its three neighbours' are the whole image. -/
theorem parts (f : Fin 512 → Fin 512 → ℝ) (c : Dev nD) : part f c + part f (nb 0 c) + part f (nb 1 c) + part f (nb 2 c) = ∑ i, ∑ j, f i j := by
  have h : ∑ i, ∑ j, f i j = part f 0 + part f 1 + part f 2 + part f 3 := by
    rw [sum_halves]
    simp only [sum_halves (f _), Finset.sum_add_distrib]
    simp only [part, add_assoc]
    rfl
  rw [h]
  fin_cases c
  · show part f 0 + part f 2 + part f 1 + part f 3 = _; ring
  · show part f 1 + part f 3 + part f 0 + part f 2 = _; ring
  · show part f 2 + part f 0 + part f 3 + part f 1 = _; ring
  · show part f 3 + part f 1 + part f 2 + part f 0 = _; ring

variable (m : (ℓ : Loc nD τ sig) → Buf (Elt Ideal) ℓ) {X : Img}
  (hX : ∀ c b p q ch, argX (W0 m) c (ix4 b p q ch) = ((X b (place (gx c) p (gx_lt c)) (place (gy c) q (gy_lt c)) ch : ℝ) : EReal))
include hX

theorem sum_part (c : Dev nD) (b : Fin 2) (ch : Fin 128) : sumX c m (ix2 b ch) = ((part (fun i j => X b i j ch) c : ℝ) : EReal) := by
  rw [total_apply]
  unfold part
  simp only [hX, coe_sum]

theorem square_part (c : Dev nD) (b : Fin 2) (ch : Fin 128) : squareX c m (ix2 b ch) = ((part (fun i j => X b i j ch * X b i j ch) c : ℝ) : EReal) := by
  rw [square_apply]
  unfold part
  simp only [hX, coe_sum, EReal.coe_mul]

omit hX in
/-- The average of four numbers' sum over the count of the image's elements. -/
theorem average (a b c d : ℝ) : Ideal.div ((a : EReal) + b + c + d) ((262144 : ℝ) : EReal) = (((a + b + c + d) / 262144 : ℝ) : EReal) := by
  rw [← EReal.coe_add, ← EReal.coe_add, ← EReal.coe_add, Ideal.div_coe (by norm_num), ← EReal.coe_mul, mul_one_div]

variable (c : Dev nD)

section
omit hX
variable (p q : FVec Ideal S2x128 .f32) (g0 g1 g2 h0 h1 h2 : Vec Ideal S1x1x2x128 .f32) (b : Fin 2) (ch : Fin 128)

theorem pay7_apply : k1_pay7 p (ix2 b ch) = (p (ix2 b ch) : EReal) := by
  unfold k1_pay7; pointwise

theorem pay8_apply : k1_pay8 p g0 g1 g2 (ix2 b ch) = Ideal.div ((p (ix2 b ch) : EReal) + g0 (ix4 0 0 b ch) + g1 (ix4 0 0 b ch) + g2 (ix4 0 0 b ch)) ((262144 : ℝ) : EReal) := by
  rw [← word_count]; unfold k1_pay8; pointwise

theorem pay10_apply : k1_pay10 p g0 g1 g2 (ix4 0 b 0 ch) = k1_pay8 p g0 g1 g2 (ix2 b ch) := by
  unfold k1_pay10; pointwise

theorem pay9_apply : k1_pay9 p g0 g1 g2 q h0 h1 h2 (ix2 b ch)
    = Ideal.div ((q (ix2 b ch) : EReal) + h0 (ix4 0 0 b ch) + h1 (ix4 0 0 b ch) + h2 (ix4 0 0 b ch)) ((262144 : ℝ) : EReal) - k1_pay8 p g0 g1 g2 (ix2 b ch) * k1_pay8 p g0 g1 g2 (ix2 b ch) := by
  rw [← word_count]; unfold k1_pay9; pointwise

theorem pay1_apply : k1_pay1 p (ix4 0 b 0 ch) = Ideal.rsqrt ((p (ix2 b ch) : EReal) + (eps : EReal)) := by
  rw [← word_eps]; unfold k1_pay1; pointwise
end

/-- The first half of the statistics is the mean. -/
theorem mean_apply (b : Fin 2) (ch : Fin 128) : Talk.statsOut (W1 m) c (ix4 0 b 0 ch) = ((mean X b ch : ℝ) : EReal) := by
  have h : ∀ k, Talk.gotC (W1 m) c (ix4 k 0 b ch) = ((part (fun i j => X b i j ch) (nb k c) : ℝ) : EReal) := fun k => sum_part m hX (nb k c) b ch
  unfold Talk.statsOut
  refine (if_pos rfl).trans ((pay10_apply _ _ _ _ b ch).trans ((pay8_apply _ _ _ _ b ch).trans ?_))
  rw [pay7_apply]
  exact (congrArg (Ideal.div · _) (congrArg₂ (· + ·) (congrArg₂ (· + ·) (congrArg₂ (· + ·) (sum_part m hX c b ch) (h 0)) (h 1)) (h 2))).trans
    ((average _ _ _ _).trans (congrArg (fun r : ℝ => ((r / 262144 : ℝ) : EReal)) (parts _ c)))

/-- The second half is one over the deviation. -/
theorem rstd_apply (b : Fin 2) (ch : Fin 128) : Talk.statsOut (W1 m) c (ix4 1 b 0 ch) = ((rstd X b ch : ℝ) : EReal) := by
  have h : ∀ k, Talk.gotC (W1 m) c (ix4 k 0 b ch) = ((part (fun i j => X b i j ch) (nb k c) : ℝ) : EReal) := fun k => sum_part m hX (nb k c) b ch
  have h' : ∀ k, Talk.gotC (W1 m) c (ix4 k 1 b ch) = ((part (fun i j => X b i j ch * X b i j ch) (nb k c) : ℝ) : EReal) := fun k => square_part m hX (nb k c) b ch
  have hm := mean_apply m hX c b ch
  unfold Talk.statsOut at hm ⊢
  replace hm := ((if_pos rfl).trans (pay10_apply _ _ _ _ b ch)).symm.trans hm
  refine (if_neg Nat.one_ne_zero).trans ((pay1_apply _ b ch).trans ?_)
  rw [pay9_apply, hm]
  rw [← EReal.coe_mul]
  refine (congrArg (fun z => Ideal.rsqrt (z - _ + _)) ((congrArg (Ideal.div · _) (congrArg₂ (· + ·) (congrArg₂ (· + ·) (congrArg₂ (· + ·) (square_part m hX c b ch) (h' 0)) (h' 1)) (h' 2))).trans
    ((average _ _ _ _).trans (congrArg (fun r : ℝ => ((r / 262144 : ℝ) : EReal)) (parts _ c))))).trans ?_
  rw [← EReal.coe_sub, ← EReal.coe_add, var_eq, rsqrt_pos _ (var_eps_pos X b ch)]
  rfl

end Cert.Value.Moments
-- ==== Proof.Value.Block.lean ====
/- One block of the last call: the padded block is the padded image at that place, and the block of the result follows. -/
module

public import proofs.«01_k».proof.Proof.Value.Spec
public import proofs.«01_k».proof.Proof.Comp.Run
public import Idealize.ShloMosaic.Lib.WordCmp

@[expose] public section

set_option maxRecDepth 16384

noncomputable section

namespace Cert.Value.Block

open Idealize.ShloMosaic Cert.KernelIdeal Cert.KernelIdeal.Gen Cert.Value

variable {X : Img} {b : Fin 2}

theorem pad_congr {i i' j j' : ℕ} (hi : (cl i).val = (cl i').val) (hj : (cl j).val = (cl j').val) (ch : Fin 128) : pad X b i j ch = pad X b i' j' ch := by
  unfold pad; rw [Fin.ext hi, Fin.ext hj]

/-- Taking the mean off a value and multiplying by the reciprocal of the deviation normalises it. -/
theorem normalised {v m r : EReal} {i j : ℕ} {ch : Fin 128} (hv : v = ((X b (cl i) (cl j) ch : ℝ) : EReal)) (hm : m = ((mean X b ch : ℝ) : EReal)) (hr : r = ((rstd X b ch : ℝ) : EReal)) :
    (v - m) * r = pad X b i j ch := by
  rw [hv, hm, hr, ← EReal.coe_sub, ← EReal.coe_mul]; rfl

/-- A choice between two values by whether two small numbers are two others. -/
theorem select_both {α : Type} {t t0 g g0 : ℕ} (ht : t < 4) (ht0 : t0 < 4) (hg : g < 2) (hg0 : g0 < 2) (u v : α) :
    Scalar.select (Scalar.andi (Scalar.cmpi .eq (BitVec.ofNat 32 t) (BitVec.ofNat 32 t0)) (Scalar.cmpi .eq (BitVec.ofNat 32 g) (BitVec.ofNat 32 g0))) u v
      = if t = t0 ∧ g = g0 then u else v := by
  interval_cases t <;> interval_cases t0 <;> interval_cases g <;> interval_cases g0 <;> rfl

/-- A sum in which one row is kept and the others are zero is that row. -/
theorem pick {n : ℕ} (hn : n < 256) (f : Fin 256 → EReal) :
    ∑ x : Fin 256, Scalar.select (IntOp.cmpi .eq (BitVec.ofNat 32 x.val) (BitVec.ofNat 32 n)) (f x) 0 = f ⟨n, hn⟩ := by
  rw [Finset.sum_eq_single ⟨n, hn⟩]
  · unfold Scalar.select; exact if_pos ((WordCmp.cmpi_eq_ofNat_eq_one_iff (by omega) (by omega)).mpr rfl)
  · intro x _ hx
    unfold Scalar.select
    exact if_neg fun h => hx (Fin.ext ((WordCmp.cmpi_eq_ofNat_eq_one_iff (by have := x.isLt; omega) (by omega)).mp h))
  · exact fun h => absurd (Finset.mem_univ _) h

variable {m r : FVec Ideal S128 .bf16} (hm : ∀ ch, m (ix1 ch) = ((mean X b ch : ℝ) : EReal)) (hr : ∀ ch, r (ix1 ch) = ((rstd X b ch : ℝ) : EReal))

theorem pay2_apply (v : Vec Ideal S1x1x1x128 .f32) (ch : Fin 128) : k2_pay2 v (ix1 ch) = (v (ix4 0 0 0 ch) : EReal) := by
  unfold k2_pay2; pointwise
theorem pay3_apply (v : Vec Ideal S1x1x1x128 .f32) (ch : Fin 128) : k2_pay3 v (ix1 ch) = (v (ix4 0 0 0 ch) : EReal) := by
  unfold k2_pay3; pointwise
theorem pay4_apply (v : Vec Ideal S1x64x256x128 .f32) (p : Fin 64) (s : Fin 256) (ch : Fin 128) : k2_pay4 v (ix3 p s ch) = (v (ix4 0 p s ch) : EReal) := by
  unfold k2_pay4; pointwise
theorem pay18_apply (v : Vec Ideal S3x3x128 .f32) (p q : Fin 3) (ch : Fin 128) : k2_pay18 v (ix3 p q ch) = (v (ix3 p q ch) : EReal) := by
  unfold k2_pay18; pointwise

include hm hr

theorem pay5_apply {v : Vec Ideal S1x256x128 .bf16} {i j : ℕ} (s : Fin 256) (ch : Fin 128) (hv : v (ix3 0 s ch) = ((X b (cl i) (cl j) ch : ℝ) : EReal)) :
    k2_pay5 m r v (ix2 s ch) = pad X b i j ch := by
  rw [← normalised hv (hm ch) (hr ch)]
  unfold k2_pay5; pointwise

theorem pay6_apply {gx gy t : ℕ} (hgy : gy = 0 ∨ gy = 1) {x : FVec Ideal S64x256x128 .bf16} {v : Vec Ideal S1x64x128 .bf16}
    (hx : ∀ p s ch, x (ix3 p s ch) = ((X b (cl (256 * gx + 64 * t + p.val + 1)) (cl (256 * gy + s.val + 1)) ch : ℝ) : EReal))
    (hv : ∀ p ch, v (ix3 0 p ch) = ((X b (cl (256 * gx + 64 * t + p.val + 1)) (cl (257 - gy)) ch : ℝ) : EReal))
    (p : Fin 64) (s : Fin 258) (ch : Fin 128) : k2_pay6 (BitVec.ofNat 32 gy) m r x v (ix3 p s ch) = pad X b (256 * gx + 64 * t + p.val + 1) (256 * gy + s.val) ch := by
  have := s.isLt
  have hx' := fun s' => normalised (hx p s' ch) (hm ch) (hr ch)
  have hv' := normalised (hv p ch) (hm ch) (hr ch)
  obtain rfl | rfl := hgy <;> unfold k2_pay6 <;> pointwise <;> split_ifs with h1 h2 <;>
    first
    | (refine (hx' _).trans (pad_congr rfl ?_ ch); simp only [cl_val]; omega)
    | (refine hv'.trans (pad_congr rfl ?_ ch); simp only [cl_val]; omega)

theorem pay7_apply {gx gy t : ℕ} (hgx : gx < 2) (ht : t < 4) {v : Vec Ideal S1x256x128 .bf16} {x : Vec Ideal S1x256x128 .f32}
    (hv : ∀ s ch, v (ix3 0 s ch) = ((X b (cl (257 - gx)) (cl (256 * gy + s.val + 1)) ch : ℝ) : EReal))
    (hx : ∀ s ch, x (ix3 0 s ch) = ((X b (cl (256 * gx + max (64 * t) 1)) (cl (256 * gy + s.val + 1)) ch : ℝ) : EReal))
    (s : Fin 256) (ch : Fin 128) : k2_pay7 (BitVec.ofNat 32 t) (BitVec.ofNat 32 gx) m r v x (ix2 s ch) = pad X b (256 * gx + 64 * t) (256 * gy + s.val + 1) ch := by
  unfold k2_pay7
  pointwise
  rw [normalised (hv s ch) (hm ch) (hr ch), normalised (hx s ch) (hm ch) (hr ch), select_both ht (by omega) hgx (by omega)]
  split_ifs <;> refine pad_congr ?_ rfl ch <;> simp only [cl_val] <;> omega

theorem pay13_apply {gx gy t : ℕ} (hgx : gx < 2) (ht : t < 4) {v : Vec Ideal S1x256x128 .bf16} {x : Vec Ideal S1x256x128 .f32}
    (hv : ∀ s ch, v (ix3 0 s ch) = ((X b (cl (257 - gx)) (cl (256 * gy + s.val + 1)) ch : ℝ) : EReal))
    (hx : ∀ s ch, x (ix3 0 s ch) = ((X b (cl (256 * gx + min (64 * t + 65) 256)) (cl (256 * gy + s.val + 1)) ch : ℝ) : EReal))
    (s : Fin 256) (ch : Fin 128) : k2_pay13 (BitVec.ofNat 32 t) (BitVec.ofNat 32 gx) m r v x (ix2 s ch) = pad X b (256 * gx + 64 * t + 65) (256 * gy + s.val + 1) ch := by
  unfold k2_pay13
  pointwise
  rw [normalised (hv s ch) (hm ch) (hr ch), normalised (hx s ch) (hm ch) (hr ch), select_both ht (by omega) hgx (by omega)]
  split_ifs <;> refine pad_congr ?_ rfl ch <;> simp only [cl_val] <;> omega

theorem pay8_apply {gx gy t : ℕ} (hgx : gx < 2) (ht : t < 4) {col : FVec Ideal S256x128 .bf16} {v : Vec Ideal S1x1x128 .bf16}
    (hv : ∀ ch, v (ix3 0 0 ch) = ((X b (cl (257 - gx)) (cl (257 - gy)) ch : ℝ) : EReal))
    (hx : ∀ s ch, col (ix2 s ch) = pad X b (256 * gx + s.val + 1) (257 - gy) ch)
    (ch : Fin 128) : k2_pay8 (BitVec.ofNat 32 t) (BitVec.ofNat 32 gx) (BitVec.ofNat 32 (64 * t - 1)) m r col v (ix1 ch) = pad X b (256 * gx + 64 * t) (257 - gy) ch := by
  unfold k2_pay8
  pointwise
  rw [normalised (hv ch) (hm ch) (hr ch), pick (by omega), hx, select_both ht (by omega) hgx (by omega)]
  split_ifs <;> refine pad_congr ?_ rfl ch <;> simp only [cl_val] <;> omega

theorem pay14_apply {gx gy t : ℕ} (hgx : gx < 2) (ht : t < 4) {col : FVec Ideal S256x128 .bf16} {v : Vec Ideal S1x1x128 .bf16}
    (hv : ∀ ch, v (ix3 0 0 ch) = ((X b (cl (257 - gx)) (cl (257 - gy)) ch : ℝ) : EReal))
    (hx : ∀ s ch, col (ix2 s ch) = pad X b (256 * gx + s.val + 1) (257 - gy) ch)
    (ch : Fin 128) : k2_pay14 (BitVec.ofNat 32 t) (BitVec.ofNat 32 gx) (BitVec.ofNat 32 (min (64 * t + 64) 255)) m r col v (ix1 ch) = pad X b (256 * gx + 64 * t + 65) (257 - gy) ch := by
  unfold k2_pay14
  pointwise
  rw [normalised (hv ch) (hm ch) (hr ch), pick (by omega), hx, select_both ht (by omega) hgx (by omega)]
  split_ifs <;> refine pad_congr ?_ rfl ch <;> simp only [cl_val] <;> omega

/-! ## The row above and the row below -/

section edges
variable {gx gy t : ℕ} (hgx : gx < 2) (hgy : gy = 0 ∨ gy = 1) (ht : t < 4) {row : Vec Ideal S1x256x128 .bf16} {top bot : Vec Ideal S1x256x128 .f32}
    {col : FVec Ideal S256x128 .bf16} {corn : Vec Ideal S1x1x128 .bf16}
    (hrow : ∀ s ch, row (ix3 0 s ch) = ((X b (cl (257 - gx)) (cl (256 * gy + s.val + 1)) ch : ℝ) : EReal))
    (htop : ∀ s ch, top (ix3 0 s ch) = ((X b (cl (256 * gx + max (64 * t) 1)) (cl (256 * gy + s.val + 1)) ch : ℝ) : EReal))
    (hbot : ∀ s ch, bot (ix3 0 s ch) = ((X b (cl (256 * gx + min (64 * t + 65) 256)) (cl (256 * gy + s.val + 1)) ch : ℝ) : EReal))
    (hcol : ∀ s ch, col (ix2 s ch) = pad X b (256 * gx + s.val + 1) (257 - gy) ch)
    (hcorn : ∀ ch, corn (ix3 0 0 ch) = ((X b (cl (257 - gx)) (cl (257 - gy)) ch : ℝ) : EReal))

include hgx hgy ht

include hrow htop in
theorem pay9_apply (ch : Fin 128) : k2_pay9 (BitVec.ofNat 32 t) (BitVec.ofNat 32 gx) (BitVec.ofNat 32 gy) m r row top (ix1 ch) = pad X b (256 * gx + 64 * t) (511 * gy + 1) ch := by
  have h := fun s => pay7_apply hm hr (gy := gy) hgx ht hrow htop s ch
  obtain rfl | rfl := hgy <;> unfold k2_pay9 <;> pointwise <;> exact (h _).trans (pad_congr rfl rfl ch)

include hrow hbot in
theorem pay15_apply (ch : Fin 128) : k2_pay15 (BitVec.ofNat 32 t) (BitVec.ofNat 32 gx) (BitVec.ofNat 32 gy) m r row bot (ix1 ch) = pad X b (256 * gx + 64 * t + 65) (511 * gy + 1) ch := by
  have h := fun s => pay13_apply hm hr (gy := gy) hgx ht hrow hbot s ch
  obtain rfl | rfl := hgy <;> unfold k2_pay15 <;> pointwise <;> exact (h _).trans (pad_congr rfl rfl ch)

include hrow htop hcol hcorn in
/-- The row above the block, with its two ends. -/
theorem pay12_apply (s : Fin 258) (ch : Fin 128) :
    k2_pay12 (k2_pay7 (BitVec.ofNat 32 t) (BitVec.ofNat 32 gx) m r row top)
      (k2_pay10 (BitVec.ofNat 32 t) (BitVec.ofNat 32 gx) (BitVec.ofNat 32 gy) (BitVec.ofNat 32 (64 * t - 1)) m r col row top corn)
      (k2_pay11 (BitVec.ofNat 32 t) (BitVec.ofNat 32 gx) (BitVec.ofNat 32 gy) (BitVec.ofNat 32 (64 * t - 1)) m r col row top corn) (ix2 s ch)
      = pad X b (256 * gx + 64 * t) (256 * gy + s.val) ch := by
  have := s.isLt
  have h7 := fun s => pay7_apply hm hr (gy := gy) hgx ht hrow htop s ch
  have h8 := pay8_apply hm hr hgx ht hcorn hcol ch
  have h9 := pay9_apply hm hr hgx hgy ht hrow htop ch
  obtain rfl | rfl := hgy <;> unfold k2_pay12 k2_pay10 k2_pay11 <;> pointwise <;> split_ifs with h1 h2 <;>
    first
    | (refine (h7 _).trans (pad_congr rfl ?_ ch); simp only [cl_val]; omega)
    | (refine h9.trans (pad_congr rfl ?_ ch); simp only [cl_val]; omega)
    | (refine h8.trans (pad_congr rfl ?_ ch); simp only [cl_val]; omega)

include hrow htop hbot hcol hcorn in
/-- The block with the rows above and below it is the padded image. -/
theorem pay17_apply {mid : FVec Ideal S64x258x128 .bf16} (hmid : ∀ p s ch, mid (ix3 p s ch) = pad X b (256 * gx + 64 * t + p.val + 1) (256 * gy + s.val) ch)
    {up : FVec Ideal S258x128 .bf16} (hup : ∀ s ch, up (ix2 s ch) = pad X b (256 * gx + 64 * t) (256 * gy + s.val) ch)
    (p : Fin 66) (s : Fin 258) (ch : Fin 128) :
    k2_pay17 (BitVec.ofNat 32 gy) mid up (k2_pay13 (BitVec.ofNat 32 t) (BitVec.ofNat 32 gx) m r row bot)
      (k2_pay14 (BitVec.ofNat 32 t) (BitVec.ofNat 32 gx) (BitVec.ofNat 32 (min (64 * t + 64) 255)) m r col corn)
      (k2_pay15 (BitVec.ofNat 32 t) (BitVec.ofNat 32 gx) (BitVec.ofNat 32 gy) m r row bot)
      (k2_pay16 (BitVec.ofNat 32 t) (BitVec.ofNat 32 gx) (BitVec.ofNat 32 gy) (BitVec.ofNat 32 (min (64 * t + 64) 255)) m r col row bot corn) (ix3 p s ch)
      = pad X b (256 * gx + 64 * t + p.val) (256 * gy + s.val) ch := by
  have := s.isLt
  have := p.isLt
  have h13 := fun s => pay13_apply hm hr (gy := gy) hgx ht hrow hbot s ch
  have h14 := pay14_apply hm hr hgx ht hcorn hcol ch
  have h15 := pay15_apply hm hr hgx hgy ht hrow hbot ch
  obtain rfl | rfl := hgy <;> unfold k2_pay17 k2_pay16 <;> pointwise <;> split_ifs with h1 h2 h3 h4 <;>
    first
    | (refine (hmid _ _ ch).trans (pad_congr ?_ ?_ ch) <;> simp only [cl_val] <;> omega)
    | (refine (hup _ ch).trans (pad_congr ?_ ?_ ch) <;> simp only [cl_val] <;> omega)
    | (refine (h13 _).trans (pad_congr ?_ ?_ ch) <;> simp only [cl_val] <;> omega)
    | (refine h15.trans (pad_congr ?_ ?_ ch) <;> simp only [cl_val] <;> omega)
    | (refine h14.trans (pad_congr ?_ ?_ ch) <;> simp only [cl_val] <;> omega)

end edges

end Cert.Value.Block

end
-- ==== Proof.Value.Result.lean ====
/- From a padded block to the block of the result. -/
module

public import proofs.«01_k».proof.Proof.Value.Block

@[expose] public section

set_option maxRecDepth 16384

noncomputable section

namespace Cert.Value.Block

open Idealize.ShloMosaic Cert.KernelIdeal Cert.KernelIdeal.Gen Cert.Value

variable {X : Img} {b : Fin 2}

section
variable {i j : ℕ} {v5 : BitVec 32} {mid : FVec Ideal S64x258x128 .bf16} {up : FVec Ideal S258x128 .bf16} {lo : FVec Ideal S256x128 .bf16} {a1 a2 a3 : FVec Ideal S128 .bf16} (k : Vec Ideal S3x3x128 .f32)
  (hext : ∀ p s ch, k2_pay17 v5 mid up lo a1 a2 a3 (ix3 p s ch) = pad X b (i + p.val) (j + s.val) ch)
include hext

/-- The products of the first column of the filter, added over its rows. -/
theorem pay19_apply (p : Fin 64) (s : Fin 258) (ch : Fin 128) : k2_pay19 v5 mid up lo a1 a2 a3 k (ix3 p s ch)
    = ∑ d : Fin 3, pad X b (i + p.val + d.val) (j + s.val) ch * (k (ix3 d 0 ch) : EReal) := by
  have h18 := fun p q => pay18_apply k p q ch
  unfold k2_pay19
  pointwise
  simp only [hext, h18, Fin.sum_univ_three, Fin.val_zero, Fin.val_one, Fin.val_two, Nat.add_zero, Nat.add_comm 1, Nat.add_comm 2, Nat.add_assoc]

/-- The products of the second column. -/
theorem pay20_apply (p : Fin 64) (s : Fin 258) (ch : Fin 128) : k2_pay20 v5 mid up lo a1 a2 a3 k (ix3 p s ch)
    = ∑ d : Fin 3, pad X b (i + p.val + d.val) (j + s.val) ch * (k (ix3 d 1 ch) : EReal) := by
  have h18 := fun p q => pay18_apply k p q ch
  unfold k2_pay20
  pointwise
  simp only [hext, h18, Fin.sum_univ_three, Fin.val_zero, Fin.val_one, Fin.val_two, Nat.add_zero, Nat.add_comm 1, Nat.add_comm 2, Nat.add_assoc]

/-- The block the body stores. -/
theorem pay1_apply {x : FVec Ideal S64x256x128 .bf16} {w : Vec Ideal S128x128 .f32} (p : Fin 64) (s : Fin 256) (ch : Fin 128) :
    k2_pay1 x (k2_pay17 v5 mid up lo a1 a2 a3) (k2_pay18 k) (k2_pay19 v5 mid up lo a1 a2 a3 k) (k2_pay20 v5 mid up lo a1 a2 a3 k) (k2_pay21 v5 mid up lo a1 a2 a3) (k2_pay22 k) w (ix4 0 p s ch)
      = x (ix3 p s ch) + ∑ q : Fin 128, act (conv X (fun p q l => k (ix3 p q l)) b (i + p.val) (j + s.val) q) * (w (ix2 q ch) : EReal) := by
  have h18 := fun p q ch => pay18_apply k p q ch
  have h19 := pay19_apply k hext
  have h20 := pay20_apply k hext
  have hp := p.isLt
  have hs := s.isLt
  have e : ∀ q : Fin 128, ((k2_pay19 v5 mid up lo a1 a2 a3 k (ix3 p ⟨s.val, by omega⟩ q) : EReal) + k2_pay20 v5 mid up lo a1 a2 a3 k (ix3 p ⟨1 + s.val, by omega⟩ q)
      + ((k2_pay17 v5 mid up lo a1 a2 a3 (ix3 ⟨p.val, by omega⟩ ⟨2 + s.val, by omega⟩ q) : EReal) * k2_pay18 k (ix3 0 2 q)
        + (k2_pay17 v5 mid up lo a1 a2 a3 (ix3 ⟨1 + p.val, by omega⟩ ⟨2 + s.val, by omega⟩ q) : EReal) * k2_pay18 k (ix3 1 2 q)
        + (k2_pay17 v5 mid up lo a1 a2 a3 (ix3 ⟨2 + p.val, by omega⟩ ⟨2 + s.val, by omega⟩ q) : EReal) * k2_pay18 k (ix3 2 2 q)))
      = conv X (fun p q l => k (ix3 p q l)) b (i + p.val) (j + s.val) q := fun q => by
    unfold conv
    rw [Finset.sum_comm]
    simp only [h18, h19, h20, hext, Fin.sum_univ_three, Fin.val_zero, Fin.val_one, Fin.val_two, Nat.add_zero, Nat.add_comm 1, Nat.add_comm 2, Nat.add_assoc]
  simp only [← act_tanh]
  unfold k2_pay1 k2_pay21 k2_pay22
  pointwise
  simp only [e, word_half]

end

/-- The elements a rectangle covers, at an index. -/
theorem cut_apply {s : Shape} {e : EltTy} (x : Vec Ideal s e) {off size : Fin s.rank → ℕ} {inb : ∀ a, off a + size a ≤ s.size a} {y : (Rect.unit off size inb).shape.Idx} {z : s.Idx}
    (h : ∀ a, off a + (y a).val = (z a).val) : Comp.cut x (Rect.unit off size inb) y = x z :=
  congrArg x (funext fun a => Fin.ext (by show off a + 1 * (y a : ℕ) = _; rw [one_mul]; exact h a))

theorem word_add {n m : ℕ} (h : n = m) (hm : m < 2) : (BitVec.ofNat 32 n).toNat + 0 = m := by
  subst h; interval_cases n <;> rfl

theorem row_word {n : ℕ} {t : Fin 4} (h : n = t.val) : (Scalar.muli (BitVec.ofNat 32 n) 64#32).toNat = 64 * t.val := by
  subst h; revert t; decide

theorem above_word : ∀ t : Fin 4, Scalar.maxsi (Scalar.subi (Scalar.muli (BitVec.ofNat 32 t.val) 64#32) 1#32) 0#32 = BitVec.ofNat 32 (64 * t.val - 1) := by decide

theorem below_word : ∀ t : Fin 4, Scalar.minsi (Scalar.addi (Scalar.muli (BitVec.ofNat 32 t.val) 64#32) 64#32) 255#32 = BitVec.ofNat 32 (min (64 * t.val + 64) 255) := by decide

/-- The whole body at one block: what it stores is the block of the result. -/
theorem outBlk_apply (c : Dev nD) (t : Fin 4) (g : grid2.Coords) (hgt : (g 1).val = t.val)
    {gx gy : ℕ} (hgx : gx < 2) (hgy : gy < 2) (hpx : Comp.px c = BitVec.ofNat 32 gx) (hpy : Comp.py c = BitVec.ofNat 32 gy)
    (x : Vec Ideal S1x64x256x128 .f32) (top bot : Vec Ideal S1x256x128 .f32) (st : Vec Ideal S2x2x1x128 .f32)
    (hr hc : Vec Ideal S2x256x128 .bf16) (hk : Vec Ideal S2x1x128 .bf16) (k : Vec Ideal S3x3x128 .f32) (w : Vec Ideal S128x128 .f32)
    (hb : (g 0).val = b.val)
    (hx : ∀ p s ch, x (ix4 0 p s ch) = ((X b (cl (256 * gx + 64 * t.val + p.val + 1)) (cl (256 * gy + s.val + 1)) ch : ℝ) : EReal))
    (htop : ∀ s ch, top (ix3 0 s ch) = ((X b (cl (256 * gx + max (64 * t.val) 1)) (cl (256 * gy + s.val + 1)) ch : ℝ) : EReal))
    (hbot : ∀ s ch, bot (ix3 0 s ch) = ((X b (cl (256 * gx + min (64 * t.val + 65) 256)) (cl (256 * gy + s.val + 1)) ch : ℝ) : EReal))
    (hm : ∀ ch, st (ix4 0 b 0 ch) = ((mean X b ch : ℝ) : EReal)) (hrs : ∀ ch, st (ix4 1 b 0 ch) = ((rstd X b ch : ℝ) : EReal))
    (hrow : ∀ s ch, hr (ix3 b s ch) = ((X b (cl (257 - gx)) (cl (256 * gy + s.val + 1)) ch : ℝ) : EReal))
    (hcol : ∀ s ch, hc (ix3 b s ch) = ((X b (cl (256 * gx + s.val + 1)) (cl (257 - gy)) ch : ℝ) : EReal))
    (hcorn : ∀ ch, hk (ix3 b 0 ch) = ((X b (cl (257 - gx)) (cl (257 - gy)) ch : ℝ) : EReal))
    (p : Fin 64) (s : Fin 256) (ch : Fin 128) :
    Comp.outBlk c g x top bot st hr hc hk k w (ix4 0 p s ch)
      = x (ix4 0 p s ch) + ∑ q : Fin 128, act (conv X (fun p q l => k (ix3 p q l)) b (256 * gx + 64 * t.val + p.val) (256 * gy + s.val) q) * (w (ix2 q ch) : EReal) := by
  have ht := t.isLt
  have hgy' : gy = 0 ∨ gy = 1 := by omega
  have hb2 := b.isLt
  have habove : Comp.above g = BitVec.ofNat 32 (64 * t.val - 1) := by
    unfold Comp.above; rw [hgt]; exact above_word t
  have hbelow : Comp.below g = BitVec.ofNat 32 (min (64 * t.val + 64) 255) := by
    unfold Comp.below; rw [hgt]; exact below_word t
  have hm' : ∀ ch, k2_pay2 (Comp.cut st (Rect.unit (s := S2x2x1x128) (k2_off3 g) S1x1x1x128.size (k2_off3_inb g))) (ix1 ch) = ((mean X b ch : ℝ) : EReal) := fun ch =>
    (pay2_apply _ ch).trans ((cut_apply st fun a => by fin_cases a <;> first | rfl | exact word_add hb hb2 | exact Nat.zero_add _).trans (hm ch))
  have hr' : ∀ ch, k2_pay3 (Comp.cut st (Rect.unit (s := S2x2x1x128) (k2_off4 g) S1x1x1x128.size (k2_off4_inb g))) (ix1 ch) = ((rstd X b ch : ℝ) : EReal) := fun ch =>
    (pay3_apply _ ch).trans ((cut_apply st fun a => by fin_cases a <;> first | rfl | exact word_add hb hb2 | exact Nat.zero_add _).trans (hrs ch))
  have hrow' : ∀ s ch, Comp.cut hr (Rect.unit (s := S2x256x128) (k2_off5 g) S1x256x128.size (k2_off5_inb g)) (ix3 0 s ch) = ((X b (cl (257 - gx)) (cl (256 * gy + s.val + 1)) ch : ℝ) : EReal) := fun s ch =>
    (cut_apply hr fun a => by fin_cases a <;> first | exact word_add hb hb2 | exact Nat.zero_add _).trans (hrow s ch)
  have hcol' : ∀ s ch, Comp.cut hc (Rect.unit (s := S2x256x128) (k2_off5 g) S1x256x128.size (k2_off5_inb g)) (ix3 0 s ch) = ((X b (cl (256 * gx + s.val + 1)) (cl (257 - gy)) ch : ℝ) : EReal) := fun s ch =>
    (cut_apply hc fun a => by fin_cases a <;> first | exact word_add hb hb2 | exact Nat.zero_add _).trans (hcol s ch)
  have hmid' : ∀ (p : Fin 64) ch, Comp.cut hc (Rect.unit (s := S2x256x128) (k2_off6 g) S1x64x128.size (k2_off6_inb g)) (ix3 0 p ch) = ((X b (cl (256 * gx + 64 * t.val + p.val + 1)) (cl (257 - gy)) ch : ℝ) : EReal) := fun p ch =>
    (cut_apply hc (z := ix3 b ⟨64 * t.val + p.val, by have := p.isLt; omega⟩ ch) fun a => by
      fin_cases a <;> first | exact word_add hb hb2 | exact Nat.zero_add _ | exact congrArg (· + p.val) (row_word hgt)).trans
      ((hcol _ ch).trans (congrArg (fun n => ((X b (cl n) (cl (257 - gy)) ch : ℝ) : EReal)) (by show 256 * gx + (64 * t.val + p.val) + 1 = _; omega)))
  have hcorn' : ∀ ch, Comp.cut hk (Rect.unit (s := S2x1x128) (k2_off7 g) S1x1x128.size (k2_off7_inb g)) (ix3 0 0 ch) = ((X b (cl (257 - gx)) (cl (257 - gy)) ch : ℝ) : EReal) := fun ch =>
    (cut_apply hk fun a => by fin_cases a <;> first | exact word_add hb hb2 | exact Nat.zero_add _).trans (hcorn ch)
  unfold Comp.outBlk
  rw [hpx, hpy, habove, hbelow, hgt]
  have hfull := fun s ch => pay5_apply hm' hr' s ch (hcol' s ch)
  have hext := pay17_apply hm' hr' hgx hgy' ht hrow' htop hbot hfull hcorn'
    (pay6_apply hm' hr' hgy' (fun p s ch => (pay4_apply x p s ch).trans (hx p s ch)) hmid')
    (pay12_apply hm' hr' hgx hgy' ht hrow' htop hfull hcorn')
  exact (pay1_apply k hext p s ch).trans (congrArg (· + _) (pay4_apply x p s ch))

end Cert.Value.Block
-- ==== Proof.Value.Halo.lean ====
/- What the second call leaves: the statistics, and the strips of its neighbours. -/
module

public import proofs.«01_k».proof.Proof.Value.Moments
public import proofs.«01_k».proof.Proof.Value.Result

@[expose] public section

set_option maxRecDepth 16384

noncomputable section

namespace Cert.Value.Halo

open Idealize.ShloMosaic Idealize.ShloMosaic.TcCoe Cert.KernelIdeal Cert.KernelIdeal.Gen Cert.Value Cert.Value.Sums Cert.Value.Moments
open Cert.KernelIdeal.Talk (Vals nb)
open Cert.KernelIdeal.Whole (W0 W1 W2)

/-! ## The strips a device sends -/

section
variable (b : Fin 2) (s : Fin 256) (ch : Fin 128)
theorem pay2_apply (v : Vec Ideal S2x1x256x128 .f32) : k1_pay2 v (ix3 b s ch) = (v (ix4 b 0 s ch) : EReal) := by unfold k1_pay2; pointwise
theorem pay3_apply (v : Vec Ideal S2x256x1x128 .f32) : k1_pay3 v (ix3 b s ch) = (v (ix4 b s 0 ch) : EReal) := by unfold k1_pay3; pointwise
theorem pay4_apply (v : Vec Ideal S2x1x1x128 .f32) : k1_pay4 v (ix3 b 0 ch) = (v (ix4 b 0 0 ch) : EReal) := by unfold k1_pay4; pointwise
end

/-- The row or the column a device sends: its last on the low side, its first on the high side. -/
def edge (g : ℕ) (h : g < 2) : Fin 256 := ⟨255 * (1 - g), by omega⟩

theorem off1 : ∀ c : Dev nD, k1_off1 c = ![0, 255 * (1 - gx c), 0, 0] := by decide
theorem off2 : ∀ c : Dev nD, k1_off2 c = ![0, 0, 255 * (1 - gy c), 0] := by decide
theorem off3 : ∀ c : Dev nD, k1_off3 c = ![0, 255 * (1 - gx c), 255 * (1 - gy c), 0] := by decide

variable (W : Vals Ideal) (c : Dev nD) (b : Fin 2) (s : Fin 256) (ch : Fin 128)

theorem rowC_apply : Talk.rowC W c (ix3 b s ch) = argX W c (ix4 b (edge (gx c) (gx_lt c)) s ch) := by
  refine (pay2_apply b s ch _).trans ?_
  show Comp.cut (F := Ideal) (e := .f32) (argX W c) (Rect.unit (s := S2x256x256x128) (k1_off1 c) S2x1x256x128.size (k1_off1_inb c)) (ix4 b 0 s ch) = _
  refine Block.cut_apply (e := .f32) (argX W c) fun a => ?_
  refine (congrArg (· + _) (congrFun (off1 c) a)).trans ?_
  fin_cases a <;> first | rfl | exact Nat.zero_add _
theorem colC_apply : Talk.colC W c (ix3 b s ch) = argX W c (ix4 b s (edge (gy c) (gy_lt c)) ch) := by
  refine (pay3_apply b s ch _).trans ?_
  show Comp.cut (F := Ideal) (e := .f32) (argX W c) (Rect.unit (s := S2x256x256x128) (k1_off2 c) S2x256x1x128.size (k1_off2_inb c)) (ix4 b s 0 ch) = _
  refine Block.cut_apply (e := .f32) (argX W c) fun a => ?_
  refine (congrArg (· + _) (congrFun (off2 c) a)).trans ?_
  fin_cases a <;> first | rfl | exact Nat.zero_add _
theorem cornC_apply : Talk.cornC W c (ix3 b 0 ch) = argX W c (ix4 b (edge (gx c) (gx_lt c)) (edge (gy c) (gy_lt c)) ch) := by
  refine (pay4_apply b ch _).trans ?_
  show Comp.cut (F := Ideal) (e := .f32) (argX W c) (Rect.unit (s := S2x256x256x128) (k1_off3 c) S2x1x1x128.size (k1_off3_inb c)) (ix4 b 0 0 ch) = _
  refine Block.cut_apply (e := .f32) (argX W c) fun a => ?_
  refine (congrArg (· + _) (congrFun (off3 c) a)).trans ?_
  fin_cases a <;> first | rfl | exact Nat.zero_add _

/-! ## The strips a device receives, in the whole image -/

theorem gx_nb0 : ∀ c : Dev nD, gx (nb 0 c) = 1 - gx c := by decide
theorem gy_nb0 : ∀ c : Dev nD, gy (nb 0 c) = gy c := by decide
theorem gx_nb1 : ∀ c : Dev nD, gx (nb 1 c) = gx c := by decide
theorem gy_nb1 : ∀ c : Dev nD, gy (nb 1 c) = 1 - gy c := by decide
theorem gx_nb2 : ∀ c : Dev nD, gx (nb 2 c) = 1 - gx c := by decide
theorem gy_nb2 : ∀ c : Dev nD, gy (nb 2 c) = 1 - gy c := by decide

/-- The neighbour's edge is the row, or the column, next to the device's own. -/
theorem edge_cl {g g' : ℕ} (h : g < 2) (h' : g' < 2) (e : g' = 1 - g) : place g' (edge g' h') h' = cl (257 - g) :=
  Fin.ext (by simp only [place, edge, cl_val]; omega)

theorem place_of {g g' : ℕ} (p : Fin 256) (h' : g' < 2) (e : g' = g) : place g' p h' = cl (256 * g + p.val + 1) := by
  subst e; exact place_cl p h'

variable (m : (ℓ : Loc nD τ sig) → Buf (Elt Ideal) ℓ) {X : Img}
  (hX : ∀ c b p q ch, argX (W0 m) c (ix4 b p q ch) = ((X b (place (gx c) p (gx_lt c)) (place (gy c) q (gy_lt c)) ch : ℝ) : EReal))

theorem arg_W1 : argX (W1 m) c = argX (W0 m) c := Whole.W1_keep m c main_arg0 (by decide)
theorem arg_W2 : argX (W2 m) c = argX (W0 m) c := (Whole.W2_keep m c main_arg0 (by decide)).trans (arg_W1 c m)

include hX

theorem row_apply : Talk.rowC (W1 m) (nb 0 c) (ix3 b s ch) = ((X b (cl (257 - gx c)) (cl (256 * gy c + s.val + 1)) ch : ℝ) : EReal) := by
  rw [rowC_apply, arg_W1, hX, edge_cl (gx_lt c) _ (gx_nb0 c), place_of s _ (gy_nb0 c)]
theorem col_apply : Talk.colC (W1 m) (nb 1 c) (ix3 b s ch) = ((X b (cl (256 * gx c + s.val + 1)) (cl (257 - gy c)) ch : ℝ) : EReal) := by
  rw [colC_apply, arg_W1, hX, edge_cl (gy_lt c) _ (gy_nb1 c), place_of s _ (gx_nb1 c)]
theorem corn_apply : Talk.cornC (W1 m) (nb 2 c) (ix3 b 0 ch) = ((X b (cl (257 - gx c)) (cl (257 - gy c)) ch : ℝ) : EReal) := by
  rw [cornC_apply, arg_W1, hX, edge_cl (gx_lt c) _ (gx_nb2 c), edge_cl (gy_lt c) _ (gy_nb2 c)]

omit hX

/-! ## The second call's arrays -/

theorem stats_arr : W2 m c main_v2_0 = Talk.statsOut (W1 m) c :=
  (Pipeline.afterRegion_arr (Talk.dat (W1 m) c) (W1 m c) winFacts1.arr_inj 2).trans
    ((Talk.dat (W1 m) c).arrAt_eq_of_after_last 2 ⟨0, by decide⟩ (by decide +kernel) _ fun j => rfl)
theorem row_arr : W2 m c main_v2_1 = Talk.rowC (W1 m) (nb 0 c) :=
  (Pipeline.afterRegion_arr (Talk.dat (W1 m) c) (W1 m c) winFacts1.arr_inj 3).trans
    ((Talk.dat (W1 m) c).arrAt_eq_of_after_last 3 ⟨0, by decide⟩ (by decide +kernel) _ fun j => rfl)
theorem col_arr : W2 m c main_v2_2 = Talk.colC (W1 m) (nb 1 c) :=
  (Pipeline.afterRegion_arr (Talk.dat (W1 m) c) (W1 m c) winFacts1.arr_inj 4).trans
    ((Talk.dat (W1 m) c).arrAt_eq_of_after_last 4 ⟨0, by decide⟩ (by decide +kernel) _ fun j => rfl)
theorem corn_arr : W2 m c main_v2_3 = Talk.cornC (W1 m) (nb 2 c) :=
  (Pipeline.afterRegion_arr (Talk.dat (W1 m) c) (W1 m c) winFacts1.arr_inj 5).trans
    ((Talk.dat (W1 m) c).arrAt_eq_of_after_last 5 ⟨0, by decide⟩ (by decide +kernel) _ fun j => rfl)

end Cert.Value.Halo
-- ==== Proof.Value.Device.lean ====
/- What the third call leaves on each device: its part of the result. -/
module

public import proofs.«01_k».proof.Proof.Value.Halo
public import proofs.«01_k».proof.Proof.Whole.Records

@[expose] public section

set_option maxRecDepth 16384

noncomputable section

namespace Cert.Value.Device

open Idealize.ShloMosaic Idealize.ShloMosaic.TcCoe Cert.KernelIdeal Cert.KernelIdeal.Gen Cert.Value Cert.Value.Sums Cert.Value.Moments
open Cert.KernelIdeal.Talk (Vals nb)
open Cert.KernelIdeal.Whole (W0 W1 W2 W3)

/-! ## The blocks the body reads -/

variable (W : Vals Ideal) (c : Dev nD) (t : Fin cfg2.N)

/-- The image and the group of rows of block `t`. -/
def img : Fin 2 := ⟨t.val / 4, by have h : t.val < 8 := t.isLt; omega⟩
def grp : Fin 4 := ⟨t.val % 4, by omega⟩

theorem coords0 : ∀ t : Fin grid2.N, (grid2.coords t 0).val = t.val / 4 := by decide +kernel
theorem coords1 : ∀ t : Fin grid2.N, (grid2.coords t 1).val = t.val % 4 := by decide +kernel

/-- Row `64 t + p` of a device's image. -/
def rowAt (t : Fin 4) (p : Fin 64) : Fin 256 := ⟨64 * t.val + p.val, by have := t.isLt; have := p.isLt; omega⟩

theorem blk0_apply (p : Fin 64) (s : Fin 256) (ch : Fin 128) :
    (Comp.blk W c 0 t : Vec Ideal S1x64x256x128 .f32) (ix4 0 p s ch) = argX W c (ix4 (img t) (rowAt (grp t) p) s ch) := by
  have hi : ∀ t : Fin grid2.N, win2_0.index t = ![t.val / 4, t.val % 4, 0, 0] := by decide +kernel
  blk_ext! [Comp.blk, hi t]
  · rfl
  · simp only [rowAt, grp]; omega

theorem blk1 : (Comp.blk W c 1 t : Vec Ideal S2x2x1x128 .f32) = W c main_v2_0 := by
  have hi : ∀ t : Fin grid2.N, win2_1.index t = ![0, 0, 0, 0] := by decide +kernel
  blk_ext! [Comp.blk, hi t]
theorem blk2 : (Comp.blk W c 2 t : Vec Ideal S2x256x128 .bf16) = W c main_v2_1 := by
  have hi : ∀ t : Fin grid2.N, win2_2.index t = ![0, 0, 0] := by decide +kernel
  blk_ext! [Comp.blk, hi t]
theorem blk3 : (Comp.blk W c 3 t : Vec Ideal S2x256x128 .bf16) = W c main_v2_2 := by
  have hi : ∀ t : Fin grid2.N, win2_3.index t = ![0, 0, 0] := by decide +kernel
  blk_ext! [Comp.blk, hi t]
theorem blk4 : (Comp.blk W c 4 t : Vec Ideal S2x1x128 .bf16) = W c main_v2_3 := by
  have hi : ∀ t : Fin grid2.N, win2_4.index t = ![0, 0, 0] := by decide +kernel
  blk_ext! [Comp.blk, hi t]
theorem blk5 : (Comp.blk W c 5 t : Vec Ideal S3x3x128 .f32) = W c main_arg1 := by
  have hi : ∀ t : Fin grid2.N, win2_5.index t = ![0, 0, 0] := by decide +kernel
  blk_ext! [Comp.blk, hi t]
theorem blk6 : (Comp.blk W c 6 t : Vec Ideal S128x128 .f32) = W c main_arg2 := by
  have hi : ∀ t : Fin grid2.N, win2_6.index t = ![0, 0] := by decide +kernel
  blk_ext! [Comp.blk, hi t]

/-! ## The rows above and below -/

theorem off1 : ∀ t : Fin grid2.N, k2_off1 (grid2.coords t) = ![t.val / 4, 64 * (t.val % 4) - 1, 0, 0] := by decide +kernel
theorem off2 : ∀ t : Fin grid2.N, k2_off2 (grid2.coords t) = ![t.val / 4, min (64 * (t.val % 4) + 64) 255, 0, 0] := by decide +kernel

theorem squeezed (v : Vec Ideal S1x1x256x128 .f32) (h : S1x1x256x128.ShapeCasts S1x256x128) (s : Fin 256) (ch : Fin 128) : (shapeCast S1x256x128 v h : FVec Ideal S1x256x128 .f32) (ix3 0 s ch) = (v (ix4 0 0 s ch) : EReal) := by
  pointwise

theorem top_apply (s : Fin 256) (ch : Fin 128) : (Comp.topSrc (grid2.coords t)).view.read (Elt Ideal) (W c main_arg0) (ix3 0 s ch)
    = argX W c (ix4 (img t) ⟨64 * (t.val % 4) - 1, by omega⟩ s ch) := by
  refine (congrFun (Memref.read_squeeze_slice Talk.argM _ (fun _ => rfl) _ (by decide : S1x1x256x128.ShapeCasts S1x256x128) _) _).trans ((squeezed _ _ s ch).trans ?_)
  show Comp.cut (F := Ideal) (e := .f32) (argX W c) (Rect.unit (s := S2x256x256x128) (k2_off1 (grid2.coords t)) S1x1x256x128.size (k2_off1_inb (grid2.coords t))) (ix4 0 0 s ch) = _
  refine Block.cut_apply (e := .f32) (argX W c) fun a => ?_
  refine (congrArg (· + _) (congrFun (off1 t) a)).trans ?_
  fin_cases a <;> first | rfl | exact Nat.zero_add _

theorem bot_apply (s : Fin 256) (ch : Fin 128) : (Comp.botSrc (grid2.coords t)).view.read (Elt Ideal) (W c main_arg0) (ix3 0 s ch)
    = argX W c (ix4 (img t) ⟨min (64 * (t.val % 4) + 64) 255, by omega⟩ s ch) := by
  refine (congrFun (Memref.read_squeeze_slice Talk.argM _ (fun _ => rfl) _ (by decide : S1x1x256x128.ShapeCasts S1x256x128) _) _).trans ((squeezed _ _ s ch).trans ?_)
  show Comp.cut (F := Ideal) (e := .f32) (argX W c) (Rect.unit (s := S2x256x256x128) (k2_off2 (grid2.coords t)) S1x1x256x128.size (k2_off2_inb (grid2.coords t))) (ix4 0 0 s ch) = _
  refine Block.cut_apply (e := .f32) (argX W c) fun a => ?_
  refine (congrArg (· + _) (congrFun (off2 t) a)).trans ?_
  fin_cases a <;> first | rfl | exact Nat.zero_add _

/-! ## The block and the array -/

theorem px_word : ∀ c : Dev nD, Comp.px c = BitVec.ofNat 32 (gx c) := by decide
theorem py_word : ∀ c : Dev nD, Comp.py c = BitVec.ofNat 32 (gy c) := by decide

variable (m : (ℓ : Loc nD τ sig) → Buf (Elt Ideal) ℓ)

/-- The filter and the weights a device holds. -/
abbrev argK : FVec Ideal S3x3x128 .f32 := W0 m c main_arg1
abbrev argW : FVec Ideal S128x128 .f32 := W0 m c main_arg2

/-- A device's part of the result. -/
def result (X : Img) : Vec Ideal S2x256x256x128 .bf16 := fun i =>
  out X (fun p q l => argK c m (ix3 p q l)) (fun q l => argW c m (ix2 q l)) (i 0) (place (gx c) (i 1) (gx_lt c)) (place (gy c) (i 2) (gy_lt c)) (i 3)

variable {X : Img}
  (hX : ∀ c b p q ch, argX (W0 m) c (ix4 b p q ch) = ((X b (place (gx c) p (gx_lt c)) (place (gy c) q (gy_lt c)) ch : ℝ) : EReal))
include hX

theorem res_apply (p : Fin 64) (s : Fin 256) (ch : Fin 128) : Comp.res (W2 m) c t (ix4 0 p s ch) = result c m X (ix4 (img t) (rowAt (grp t) p) s ch) := by
  have hx : ∀ p s ch, (Comp.blk (W2 m) c 0 t : Vec Ideal S1x64x256x128 .f32) (ix4 0 p s ch)
      = ((X (img t) (cl (256 * gx c + 64 * (grp t).val + p.val + 1)) (cl (256 * gy c + s.val + 1)) ch : ℝ) : EReal) := fun p s ch => by
    rw [blk0_apply, Halo.arg_W2, hX, place_cl, place_cl, Nat.add_assoc (256 * gx c) (64 * (grp t).val)]; rfl
  have key := Block.outBlk_apply (X := X) (b := img t) c (grp t) (grid2.coords t) (coords1 t) (gx_lt c) (gy_lt c) (px_word c) (py_word c)
    (Comp.blk (W2 m) c 0 t) ((Comp.topSrc (grid2.coords t)).view.read (Elt Ideal) (W2 m c main_arg0)) ((Comp.botSrc (grid2.coords t)).view.read (Elt Ideal) (W2 m c main_arg0))
    (Comp.blk (W2 m) c 1 t) (Comp.blk (W2 m) c 2 t) (Comp.blk (W2 m) c 3 t) (Comp.blk (W2 m) c 4 t) (Comp.blk (W2 m) c 5 t) (Comp.blk (W2 m) c 6 t)
    (coords0 t) hx
    (fun s ch => by
      rw [top_apply, Halo.arg_W2, hX, place_cl, place_cl]
      exact congrArg (fun n => ((X (img t) n (cl (256 * gy c + s.val + 1)) ch : ℝ) : EReal)) (Fin.ext (by simp only [cl_val, grp]; omega)))
    (fun s ch => by
      rw [bot_apply, Halo.arg_W2, hX, place_cl, place_cl]
      exact congrArg (fun n => ((X (img t) n (cl (256 * gy c + s.val + 1)) ch : ℝ) : EReal)) (Fin.ext (by simp only [cl_val, grp]; omega)))
    (fun ch => by rw [blk1, Halo.stats_arr]; exact mean_apply m hX c _ ch)
    (fun ch => by rw [blk1, Halo.stats_arr]; exact rstd_apply m hX c _ ch)
    (fun s ch => by rw [blk2, Halo.row_arr]; exact Halo.row_apply c _ s ch m hX)
    (fun s ch => by rw [blk3, Halo.col_arr]; exact Halo.col_apply c _ s ch m hX)
    (fun ch => by rw [blk4, Halo.corn_arr]; exact Halo.corn_apply c _ ch m hX)
    p s ch
  refine key.trans ?_
  rw [hx, blk5, blk6, Whole.W2_arg1, Whole.W2_arg2]
  show _ = out X _ _ (img t) (place (gx c) (rowAt (grp t) p) (gx_lt c)) (place (gy c) s (gy_lt c)) ch
  unfold out
  have e : 256 * gx c + (64 * (grp t).val + p.val) = 256 * gx c + 64 * (grp t).val + p.val := by omega
  refine congrArg₂ (· + ·) ?_ (Finset.sum_congr rfl fun q _ => ?_)
  · rw [place_cl, place_cl]; exact congrArg (fun n => ((X (img t) (cl (n + 1)) _ ch : ℝ) : EReal)) e.symm
  · show act (conv X _ _ _ _ q) * _ = act (conv X _ _ (256 * gx c + (64 * (grp t).val + p.val)) (256 * gy c + s.val) q) * _
    rw [e]
    rfl

/-- After the run each device's result is its part of the whole. -/
theorem result_arr : (W3 m c main_v3 : Vec Ideal S2x256x256x128 .bf16) = result c m X := by
  refine (Whole.at_arr m c 7).symm.trans ((Comp.dat (W2 m) c).arrAt_eq_of_covers 7 _ (by decide +kernel) fun t hf y => ?_)
  have hi : ∀ t : Fin grid2.N, win2_7.index t = ![t.val / 4, t.val % 4, 0, 0] := by decide +kernel
  revert y
  intro (y : S1x64x256x128.Idx)
  idx_vars y
  obtain rfl : y0 = 0 := Subsingleton.elim _ _
  blk_simp
  rw [Comp.after7]
  refine (res_apply c t m hX y1 y2 y3).trans (congrArg (result c m X) (funext fun a => Fin.ext ?_))
  refine Eq.trans ?_ (Pipeline.Window.rect_emb_val win2_7 t (ix4 0 y1 y2 y3) a).symm
  refine Eq.trans ?_ (congrArg (· * _ + _) (congrFun (hi t) a)).symm
  fin_cases a
  · exact (Nat.mul_one _).symm
  · exact congrArg (· + y1.val) (Nat.mul_comm _ _)
  · exact (Nat.zero_add _).symm
  · exact (Nat.zero_add _).symm

end Cert.Value.Device
-- ==== Proof.Value.Ref.lean ====
/- The reference's result, index by index, is the specification. -/
module

public import proofs.«01_k».proof.Proof.Value.Spec
public import proofs.«01_k».proof.Proof.Gen.ReferenceIdeal.Run

@[expose] public section

set_option maxRecDepth 16384

noncomputable section

namespace Cert.Value.Ref

open Idealize.ShloMosaic Cert.ReferenceIdeal Cert.ReferenceIdeal.Gen Cert.ReferenceIdeal.Value Cert.Value

/-- The reference's input, filters and weights in a valuation of its buffers. -/
abbrev inp (V : Valuation τ sig (Elt Ideal)) : FVec Ideal S2x512x512x128 .f32 := V (Proc.devRef .tc main_arg0)
abbrev ker (V : Valuation τ sig (Elt Ideal)) : FVec Ideal S3x3x128 .f32 := V (Proc.devRef .tc main_arg1)
abbrev wgt (V : Valuation τ sig (Elt Ideal)) : FVec Ideal S128x128 .f32 := V (Proc.devRef .tc main_arg2)

/-- The sum of a whole array over rows and columns. -/
abbrev sumOf (x : FVec Ideal S2x512x512x128 .f32) : FVec Ideal S2x128 .f32 :=
  Host.reduceAdd x (constant S_ .f32 0x00000000#32) reducesTo_S2x512x512x128_S2x128_d1_2 h_S_

theorem sumOf_apply (x : FVec Ideal S2x512x512x128 .f32) (b : Fin 2) (ch : Fin 128) : sumOf x (ix2 b ch) = ∑ i, ∑ j, x (ix4 b i j ch) := by
  unfold sumOf
  rw [hostReduce_mid, show (constant S_ .f32 0x00000000#32 : FVec Ideal S_ .f32) ix0 = (0 : EReal) from Ideal.ofBits_zero_f32]
  exact zero_add _

variable {V : Valuation τ sig (Elt Ideal)} {X : Img} (hX : ∀ b i j ch, inp V (ix4 b i j ch) = ((X b i j ch : ℝ) : EReal))

include hX

theorem mean_apply (b : Fin 2) (ch : Fin 128) :
    Ideal.div (sumOf (inp V) (ix2 b ch)) (Ideal.ofBits .f32 0x48800000#32) = ((mean X b ch : ℝ) : EReal) := by
  rw [sumOf_apply, word_count, Ideal.div_coe (by norm_num)]
  simp only [hX, ← coe_sum]
  rw [← EReal.coe_mul]
  unfold mean total
  congr 1
  ring

theorem v5_apply (b : Fin 2) (i j : Fin 512) (ch : Fin 128) : (res_main_call0_v5 V : FVec Ideal S2x512x512x128 .f32) (ix4 b i j ch) = ((X b i j ch - mean X b ch : ℝ) : EReal) := by
  have e : (res_main_call0_v5 V : FVec Ideal S2x512x512x128 .f32) (ix4 b i j ch)
      = (inp V (ix4 b i j ch) : EReal) - Ideal.div (sumOf (inp V) (ix2 b ch)) (Ideal.ofBits .f32 0x48800000#32) := by
    unfold res_main_call0_v5
    pointwise
  rw [e, hX, mean_apply hX, ← EReal.coe_sub]

omit hX in
theorem v8_apply : (res_main_call0_v8 V : FVec Ideal S_ .f32) ix0 = ((262144 : ℝ) : EReal) := by
  have e : (res_main_call0_v8 V : FVec Ideal S_ .f32) ix0 = Ideal.ofBits .f32 0x48800000#32 - ((((0#32 : BitVec 32).toInt : ℤ) : ℝ) : EReal) := rfl
  rw [e, word_count]
  simp

theorem var_apply (b : Fin 2) (ch : Fin 128) :
    Ideal.div (sumOf (mulf (res_main_call0_v5 V : FVec Ideal S2x512x512x128 .f32) (res_main_call0_v5 V)) (ix2 b ch)) ((res_main_call0_v8 V : FVec Ideal S_ .f32) ix0) = ((var X b ch : ℝ) : EReal) := by
  rw [sumOf_apply, v8_apply, Ideal.div_coe (by norm_num)]
  have e : ∀ i j, (mulf (res_main_call0_v5 V : FVec Ideal S2x512x512x128 .f32) (res_main_call0_v5 V)) (ix4 b i j ch) = (((X b i j ch - mean X b ch) * (X b i j ch - mean X b ch) : ℝ) : EReal) := fun i j => by
    rw [EReal.coe_mul, ← v5_apply hX]; rfl
  simp only [e, ← coe_sum]
  rw [← EReal.coe_mul]
  unfold var
  congr 1
  ring

theorem v11_apply (b : Fin 2) (i j : Fin 512) (ch : Fin 128) : (res_main_v11 V : FVec Ideal S2x512x512x128 .f32) (ix4 b i j ch) = ((norm X b i j ch : ℝ) : EReal) := by
  have e : (res_main_v11 V : FVec Ideal S2x512x512x128 .f32) (ix4 b i j ch)
      = Ideal.div ((inp V (ix4 b i j ch) : EReal) - Ideal.div (sumOf (inp V) (ix2 b ch)) (Ideal.ofBits .f32 0x48800000#32))
        (Ideal.sqrt ((if (0 : EReal) < (res_main_call0_v8 V : FVec Ideal S_ .f32) ix0 then
            Ideal.div (sumOf (mulf (res_main_call0_v5 V : FVec Ideal S2x512x512x128 .f32) (res_main_call0_v5 V)) (ix2 b ch)) ((res_main_call0_v8 V : FVec Ideal S_ .f32) ix0)
          else Ideal.ofBits .f32 0x7FC00000#32) + Ideal.ofBits .f32 0x3727C5AC#32)) := by
    unfold res_main_v11
    pointwise
    rfl
  rw [e, hX, mean_apply hX, var_apply hX, v8_apply, if_pos (EReal.coe_pos.mpr (by norm_num)), word_eps, ← EReal.coe_add, ← EReal.coe_sub, div_sqrt _ _ (var_eps_pos X b ch), ← EReal.coe_mul]
  rfl

theorem v14_apply (b : Fin 2) (i : Fin 514) (j : Fin 512) (ch : Fin 128) : (res_main_v14 V : FVec Ideal S2x514x512x128 .f32) (ix4 b i j ch) = ((norm X b (cl i.val) j ch : ℝ) : EReal) := by
  have aux : ∀ p q : Fin 512, p.val = q.val → ((norm X b p j ch : ℝ) : EReal) = ((norm X b q j ch : ℝ) : EReal) := fun p q h => by rw [Fin.ext h]
  unfold res_main_v14
  pointwise
  have := i.isLt
  split_ifs with h1 h2 <;> refine (v11_apply hX _ _ _ _).trans (aux _ _ ?_) <;> simp only [cl_val] <;> omega

theorem v17_apply (b : Fin 2) (i j : Fin 514) (ch : Fin 128) : (res_main_v17 V : FVec Ideal S2x514x514x128 .f32) (ix4 b i j ch) = pad X b i.val j.val ch := by
  have aux : ∀ p q : Fin 512, p.val = q.val → ((norm X b (cl i.val) p ch : ℝ) : EReal) = ((norm X b (cl i.val) q ch : ℝ) : EReal) := fun p q h => by rw [Fin.ext h]
  unfold res_main_v17
  pointwise
  have := j.isLt
  split_ifs with h1 h2 <;> refine (v14_apply hX _ _ _ _).trans (aux _ _ ?_) <;> simp only [cl_val] <;> omega

theorem v81_apply (b : Fin 2) (i j : Fin 512) (ch : Fin 128) : (res_main_v81 V : FVec Ideal S2x512x512x128 .f32) (ix4 b i j ch) = conv X (fun p q l => ker V (ix3 p q l)) b i.val j.val ch := by
  unfold res_main_v81 conv
  pointwise
  have h := fun (p q : Fin 514) => v17_apply hX b p q ch
  simp only [h, Fin.sum_univ_three, Fin.val_zero, Fin.val_one, Fin.val_two, Nat.add_zero, Nat.add_comm 1, Nat.add_comm 2, add_assoc]

/-- The reference's result. -/
theorem result_apply (b : Fin 2) (i j : Fin 512) (ch : Fin 128) :
    (truncf .bf16 (addf (inp V) (shapeCast S2x512x512x128 (Host.dotGeneral dot_S524288x128_S128x128_S524288x128_1_0_0_1_n_n none (shapeCast S524288x128 (Host.divf (res_main_v81 V : FVec Ideal S2x512x512x128 .f32) (addf (broadcastInDim S2x512x512x128 ![] bcast_S_S2x512x512x128 (constant S_ .f32 0x3F800000#32)) (Host.exp (Host.negf (res_main_v81 V : FVec Ideal S2x512x512x128 .f32))))) shapeCasts_S2x512x512x128_S524288x128) (wgt V)) shapeCasts_S524288x128_S2x512x512x128)) bitsLt_bf16_f32 : FVec Ideal S2x512x512x128 .bf16) (ix4 b i j ch)
      = out X (fun p q l => ker V (ix3 p q l)) (fun q l => wgt V (ix2 q l)) b i j ch := by
  unfold out act
  pointwise
  have h := fun (q : Fin 128) => v81_apply hX b i j q
  simp only [h, hX]

end Cert.Value.Ref

end
-- ==== Proof.Value.Equation.lean ====
/- The kernel's results are the parts of the reference's result. -/
module

public import proofs.«01_k».proof.Proof.Value.Device
public import proofs.«01_k».proof.Proof.Value.Ref
public import proofs.«01_k».proof.Proof.Whole.Main
public import proofs.«01_k».proof.Proof.Whole.Frames
public import proofs.«01_k».proof.Defs

@[expose] public section

set_option maxRecDepth 16384

noncomputable section

namespace Cert.Value.Equation

open Idealize.ShloMosaic Idealize.ShloMosaic.TcCoe Idealize.SL.Sem Cert.Value Cert.Value.Sums Cert.Value.Moments
open Cert.KernelIdeal.Whole (W0 W3)

/-- The side conditions of the precondition's operations, on one device's arrays. -/
instance preFacts : Cert.Pre_finite_KernelIdeal.Facts := ⟨by decide⟩

/-- The side conditions of the same operations on the reference's arrays. -/
instance preFactsRef : Cert.Pre_finite_ReferenceIdeal.Facts := ⟨by decide⟩

/-- An element whose absolute value is below infinity is the real number it stands for. -/
theorem finite_coe (a : EReal) (h : Ideal.cmp .olt (max a (-a)) (Ideal.ofBits .f32 0x7F800000#32) = 1#1) : a = ((a.toReal : ℝ) : EReal) := by
  have top : Ideal.ofBits .f32 0x7F800000#32 = ⊤ := by simp [Ideal.ofBits, Ideal.ieee]
  rw [top] at h
  induction a using EReal.rec with
  | bot => simp [Ideal.cmp] at h
  | top => simp [Ideal.cmp] at h
  | coe r => rfl

/-- The shape of one device's part, and that of the whole array. -/
abbrev P : Shape := ⟨4, ![2, 256, 256, 128]⟩
abbrev G : Shape := ⟨4, ![2, 512, 512, 128]⟩

/-- Device `c`'s part of an array. -/
abbrev part {α : Type} (c : Dev 4) (v : G.Idx → α) : P.Idx → α := Layout.blockN P G (Layout.meshBlock [2, 2] ![[], [0], [1], []] c) v

/-- Device `c`'s part of an array, index by index: rows and columns counted from the part's place. -/
theorem part_apply {α : Type} (v : G.Idx → α) (c : Dev 4) (b : Fin 2) (p q : Fin 256) (ch : Fin 128) :
    part c v (ix4 b p q ch) = v (ix4 b (place (gx c) p (gx_lt c)) (place (gy c) q (gy_lt c)) ch) := by
  have h0 : ∀ c : Dev 4, Layout.meshLin [2, 2] c.val [0] = gx c := by decide
  have h1 : ∀ c : Dev 4, Layout.meshLin [2, 2] c.val [1] = gy c := by decide
  refine congrArg v (funext fun a => Fin.ext ?_)
  fin_cases a
  · show 0 * 2 + b.val = b.val
    omega
  · show Layout.meshLin [2, 2] c.val [0] * 256 + p.val = 256 * gx c + p.val
    rw [h0]; omega
  · show Layout.meshLin [2, 2] c.val [1] * 256 + q.val = 256 * gy c + q.val
    rw [h1]; omega
  · show 0 * 128 + ch.val = ch.val
    omega

/-- The device that holds row `i` and column `j`. -/
def holder (i j : Fin 512) : Dev 4 := ⟨2 * (i.val / 256) + j.val / 256, by have := i.isLt; have := j.isLt; omega⟩

theorem holder_row (i j : Fin 512) : place (gx (holder i j)) ⟨i.val % 256, by omega⟩ (gx_lt _) = i :=
  Fin.ext (by have := i.isLt; have := j.isLt; simp only [place, gx, holder]; omega)

theorem holder_col (i j : Fin 512) : place (gy (holder i j)) ⟨j.val % 256, by omega⟩ (gy_lt _) = j :=
  Fin.ext (by have := i.isLt; have := j.isLt; simp only [place, gy, holder]; omega)

/-- If every device's part is finite, so is the whole. -/
theorem whole_finite (v : G.Idx → EReal)
    (h : ∀ (c : Dev 4) (i : P.Idx), Ideal.cmp .olt (max (part c v i) (-part c v i)) (Ideal.ofBits .f32 0x7F800000#32) = 1#1)
    (b : Fin 2) (i j : Fin 512) (ch : Fin 128) : v (ix4 b i j ch) = (((v (ix4 b i j ch)).toReal : ℝ) : EReal) := by
  have g := finite_coe _ (h (holder i j) (ix4 b ⟨i.val % 256, by omega⟩ ⟨j.val % 256, by omega⟩ ch))
  rwa [part_apply, holder_row, holder_col] at g

/-- The kernel's runs from a finite input end as before: arguments kept, counters at zero. -/
theorem frame_finite : Cert.quiescent_KernelIdeal_pre_finite_KernelIdeal := fun m ρ _ => Cert.KernelIdeal.Whole.frame_any (F := Ideal) m ρ

/-- The same of the reference. -/
theorem frame_ref_finite : Cert.quiescent_ReferenceIdeal_pre_finite_ReferenceIdeal := fun m ρ _ => Cert.KernelIdeal.Whole.frame_ref m ρ trivial

/-- From a finite input cut over the four devices, each device's result is its part of the reference's result. -/
theorem equation : Cert.algebraic_KernelIdeal_ReferenceIdeal_pre_finite_KernelIdeal := by
  intro m ρ m' ρ' hpre hargs
  let x : FVec Ideal G .f32 := m' (((0 : Dev Cert.ReferenceIdeal.nD).tc : Thread Cert.ReferenceIdeal.nD Cert.ReferenceIdeal.τ).loc Cert.ReferenceIdeal.main_arg0)
  let X : Img := fun b i j ch => (x (ix4 b i j ch) : EReal).toReal
  have fin : ∀ b i j ch, (x (ix4 b i j ch) : EReal) = ((X b i j ch : ℝ) : EReal) := whole_finite x fun c i => by
    have h := congrFun (hpre c) i
    rw [(hargs c).1] at h
    exact h
  have hV : ∀ b i j ch, Ref.inp (StableHlo.launchContents m' 0) (ix4 b i j ch) = ((X b i j ch : ℝ) : EReal) := fin
  have hX : ∀ (c : Dev Cert.KernelIdeal.nD) b p q ch, argX (W0 m) c (ix4 b p q ch) = ((X b (place (gx c) p (gx_lt c)) (place (gy c) q (gy_lt c)) ch : ℝ) : EReal) := fun c b p q ch =>
    (congrFun (hargs c).1 (ix4 b p q ch)).trans ((part_apply x c b p q ch).trans (fin _ _ _ _))
  refine ⟨_, (θ_run _ _ _).mono (fun r h c => ⟨?_, Cert.KernelIdeal.Whole.args_kept m r.2 c (h.1 c)⟩) (Cert.KernelIdeal.Whole.run_main (F := Ideal) m ρ),
    (θ_run _ _ _).mono (fun r h => h 0) (Cert.ReferenceIdeal.Value.run (F := Ideal) m' ρ')⟩
  refine (h.1 c _ (Cert.KernelIdeal.Whole.in_refs Cert.KernelIdeal.main_v3 (by decide))).trans ((Device.result_arr c m hX).trans ?_)
  funext i
  revert i
  intro (i : P.Idx)
  idx_vars i
  refine Eq.trans ?_ ((part_apply _ c i0 i1 i2 i3).trans (Ref.result_apply hV i0 _ _ i3)).symm
  have e1 : Device.argK c m = Ref.ker (StableHlo.launchContents m' 0) := (hargs c).2.1
  have e2 : Device.argW c m = Ref.wgt (StableHlo.launchContents m' 0) := (hargs c).2.2
  show out X _ _ i0 _ _ i3 = _
  rw [e1, e2]
  rfl

end Cert.Value.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Whole.Frames
public import proofs.«01_k».proof.Proof.Value.Equation
public import Idealize.ShloMosaic.Adequacy
public import Idealize.ShloMosaic.Init

@[expose] public section

noncomputable section

namespace Cert.Proof

/-- Everything the certificate claims. -/
theorem claim : Cert.Claim :=
  ⟨Cert.Kernel.Gen.facts, Cert.KernelIdeal.Gen.facts, Cert.ReferenceIdeal.Gen.facts, Cert.Value.Equation.preFacts, Cert.Value.Equation.preFactsRef,
    Cert.KernelIdeal.Whole.frame_kernel, Cert.KernelIdeal.Whole.frame_ideal, Cert.Value.Equation.frame_finite,
    Cert.KernelIdeal.Whole.frame_ref, Cert.Value.Equation.frame_ref_finite, trivial, Cert.Value.Equation.equation⟩

end Cert.Proof

end
